-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1024x6144 : Shape := ⟨3, ![3, 1024, 6144]⟩
abbrev S3072x16384 : Shape := ⟨2, ![3072, 16384]⟩
abbrev S48x16384 : Shape := ⟨2, ![48, 16384]⟩
abbrev S3072x6144 : Shape := ⟨2, ![3072, 6144]⟩
abbrev S3072x48 : Shape := ⟨2, ![3072, 48]⟩
abbrev S256x6144 : Shape := ⟨2, ![256, 6144]⟩
abbrev S256x48 : Shape := ⟨2, ![256, 48]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1024x6144 : Shape := ⟨2, ![1024, 6144]⟩
abbrev S3072x512 : Shape := ⟨2, ![3072, 512]⟩
abbrev S48x512 : Shape := ⟨2, ![48, 512]⟩
abbrev S1024x512 : Shape := ⟨2, ![1024, 512]⟩
abbrev S6144x512 : Shape := ⟨2, ![6144, 512]⟩
abbrev S64x512 : Shape := ⟨2, ![64, 512]⟩
abbrev S64x1x512 : Shape := ⟨3, ![64, 1, 512]⟩
abbrev S64x2x512 : Shape := ⟨3, ![64, 2, 512]⟩
abbrev S128x512 : Shape := ⟨2, ![128, 512]⟩
abbrev S1x512 : Shape := ⟨2, ![1, 512]⟩
abbrev S3x1024x16384 : Shape := ⟨3, ![3, 1024, 16384]⟩
abbrev S3x1024x48 : Shape := ⟨3, ![3, 1024, 48]⟩

abbrev nBuf : Space → Nat
  | .hbm => 16
  | .vmem => 31
  | .smem => 0
  | _ => 0

abbrev bufTy : (tb : Table) → Fin (tcTables nBuf tb) → BufTy
  | .hbm, ⟨0, _⟩ => ⟨S3x1024x6144, .bf16⟩
  | .hbm, ⟨1, _⟩ => ⟨S3x1024x6144, .bf16⟩
  | .hbm, ⟨2, _⟩ => ⟨S3072x16384, .i8⟩
  | .hbm, ⟨3, _⟩ => ⟨S48x16384, .f32⟩
  | .hbm, ⟨4, _⟩ => ⟨S3072x6144, .bf16⟩
  | .hbm, ⟨5, _⟩ => ⟨S3072x6144, .bf16⟩
  | .hbm, ⟨6, _⟩ => ⟨S3072x6144, .bf16⟩
  | .hbm, ⟨7, _⟩ => ⟨S3072x6144, .bf16⟩
  | .hbm, ⟨8, _⟩ => ⟨S3072x6144, .i8⟩
  | .hbm, ⟨9, _⟩ => ⟨S3072x48, .f32⟩
  | .hbm, ⟨10, _⟩ => ⟨S3072x16384, .bf16⟩
  | .hbm, ⟨11, _⟩ => ⟨S3072x16384, .bf16⟩
  | .hbm, ⟨12, _⟩ => ⟨S3x1024x16384, .bf16⟩
  | .hbm, ⟨13, _⟩ => ⟨S3x1024x16384, .bf16⟩
  | .hbm, ⟨14, _⟩ => ⟨S3x1024x6144, .i8⟩
  | .hbm, ⟨15, _⟩ => ⟨S3x1024x48, .f32⟩
  | .local _ .vmem, ⟨0, _⟩ => ⟨S256x6144, .bf16⟩
  | .local _ .vmem, ⟨1, _⟩ => ⟨S256x6144, .bf16⟩
  | .local _ .vmem, ⟨2, _⟩ => ⟨S256x6144, .bf16⟩
  | .local _ .vmem, ⟨3, _⟩ => ⟨S256x6144, .bf16⟩
  | .local _ .vmem, ⟨4, _⟩ => ⟨S256x6144, .bf16⟩
  | .local _ .vmem, ⟨5, _⟩ => ⟨S256x6144, .bf16⟩
  | .local _ .vmem, ⟨6, _⟩ => ⟨S256x6144, .bf16⟩
  | .local _ .vmem, ⟨7, _⟩ => ⟨S256x6144, .bf16⟩
  | .local _ .vmem, ⟨8, _⟩ => ⟨S256x6144, .i8⟩
  | .local _ .vmem, ⟨9, _⟩ => ⟨S256x6144, .i8⟩
  | .local _ .vmem, ⟨10, _⟩ => ⟨S256x48, .f32⟩
  | .local _ .vmem, ⟨11, _⟩ => ⟨S256x48, .f32⟩
  | .local _ .vmem, ⟨12, _⟩ => ⟨S256x256, .bf16⟩
  | .local _ .vmem, ⟨13, _⟩ => ⟨S1024x6144, .bf16⟩
  | .local _ .vmem, ⟨14, _⟩ => ⟨S1024x6144, .bf16⟩
  | .local _ .vmem, ⟨15, _⟩ => ⟨S3072x512, .i8⟩
  | .local _ .vmem, ⟨16, _⟩ => ⟨S3072x512, .i8⟩
  | .local _ .vmem, ⟨17, _⟩ => ⟨S48x512, .f32⟩
  | .local _ .vmem, ⟨18, _⟩ => ⟨S48x512, .f32⟩
  | .local _ .vmem, ⟨19, _⟩ => ⟨S1024x512, .bf16⟩
  | .local _ .vmem, ⟨20, _⟩ => ⟨S1024x512, .bf16⟩
  | .local _ .vmem, ⟨21, _⟩ => ⟨S6144x512, .bf16⟩
  | .local _ .vmem, ⟨22, _⟩ => ⟨S1024x6144, .bf16⟩
  | .local _ .vmem, ⟨23, _⟩ => ⟨S1024x6144, .bf16⟩
  | .local _ .vmem, ⟨24, _⟩ => ⟨S3072x512, .i8⟩
  | .local _ .vmem, ⟨25, _⟩ => ⟨S3072x512, .i8⟩
  | .local _ .vmem, ⟨26, _⟩ => ⟨S48x512, .f32⟩
  | .local _ .vmem, ⟨27, _⟩ => ⟨S48x512, .f32⟩
  | .local _ .vmem, ⟨28, _⟩ => ⟨S1024x512, .bf16⟩
  | .local _ .vmem, ⟨29, _⟩ => ⟨S1024x512, .bf16⟩
  | .local _ .vmem, ⟨30, _⟩ => ⟨S6144x512, .bf16⟩
  | _, _ => ⟨S3x1024x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x6144 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x48 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![3, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x6144 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S3072x512 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S48x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![3, 32], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x6144 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S3072x512 .i8 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S48x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== ReferenceIdeal.lean ====
abbrev S3x1024x6144 : Shape := ⟨3, ![3, 1024, 6144]⟩
abbrev S3072x16384 : Shape := ⟨2, ![3072, 16384]⟩
abbrev S48x16384 : Shape := ⟨2, ![48, 16384]⟩
abbrev S2x2 : Shape := ⟨2, ![2, 2]⟩
abbrev S2x1x2x1 : Shape := ⟨4, ![2, 1, 2, 1]⟩
abbrev S1x2x1x2 : Shape := ⟨4, ![1, 2, 1, 2]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S16x1x16x1 : Shape := ⟨4, ![16, 1, 16, 1]⟩
abbrev S16x2x16x2 : Shape := ⟨4, ![16, 2, 16, 2]⟩
abbrev S32x32 : Shape := ⟨2, ![32, 32]⟩
abbrev S32x1x32x1 : Shape := ⟨4, ![32, 1, 32, 1]⟩
abbrev S32x2x32x2 : Shape := ⟨4, ![32, 2, 32, 2]⟩
abbrev S64x64 : Shape := ⟨2, ![64, 64]⟩
abbrev S64x1x64x1 : Shape := ⟨4, ![64, 1, 64, 1]⟩
abbrev S64x2x64x2 : Shape := ⟨4, ![64, 2, 64, 2]⟩
abbrev S128x128 : Shape := ⟨2, ![128, 128]⟩
abbrev S_ : Shape := ⟨0, ![]⟩
abbrev S3x1024x48x128 : Shape := ⟨4, ![3, 1024, 48, 128]⟩
abbrev S48x64x16384 : Shape := ⟨3, ![48, 64, 16384]⟩
abbrev S3x1024x48 : Shape := ⟨3, ![3, 1024, 48]⟩
abbrev S3x1024x48x1 : Shape := ⟨4, ![3, 1024, 48, 1]⟩
abbrev S3x1024x48x64 : Shape := ⟨4, ![3, 1024, 48, 64]⟩
abbrev S3x1024x3072 : Shape := ⟨3, ![3, 1024, 3072]⟩
abbrev S3x1024x16384 : Shape := ⟨3, ![3, 1024, 16384]⟩

abbrev nBuf : Space → Nat
  | .hbm => 130
  | .vmem => 0
  | .smem => 0
  | _ => 0

abbrev hbmTy0_0 (i : Nat) : BufTy := match i % 128 with
  | 0 => ⟨S3x1024x6144, .bf16⟩
  | 1 => ⟨S3x1024x6144, .bf16⟩
  | 2 => ⟨S3072x16384, .i8⟩
  | 3 => ⟨S48x16384, .f32⟩
  | 4 => ⟨S2x2, .f32⟩
  | 5 => ⟨S2x1x2x1, .f32⟩
  | 6 => ⟨S1x2x1x2, .f32⟩
  | 7 => ⟨S2x2x2x2, .f32⟩
  | 8 => ⟨S2x2x2x2, .f32⟩
  | 9 => ⟨S2x2x2x2, .f32⟩
  | 10 => ⟨S4x4, .f32⟩
  | 11 => ⟨S4x1x4x1, .f32⟩
  | 12 => ⟨S1x2x1x2, .f32⟩
  | 13 => ⟨S4x2x4x2, .f32⟩
  | 14 => ⟨S4x2x4x2, .f32⟩
  | 15 => ⟨S4x2x4x2, .f32⟩
  | 16 => ⟨S8x8, .f32⟩
  | 17 => ⟨S8x1x8x1, .f32⟩
  | 18 => ⟨S1x2x1x2, .f32⟩
  | 19 => ⟨S8x2x8x2, .f32⟩
  | 20 => ⟨S8x2x8x2, .f32⟩
  | 21 => ⟨S8x2x8x2, .f32⟩
  | 22 => ⟨S16x16, .f32⟩
  | 23 => ⟨S16x1x16x1, .f32⟩
  | 24 => ⟨S1x2x1x2, .f32⟩
  | 25 => ⟨S16x2x16x2, .f32⟩
  | 26 => ⟨S16x2x16x2, .f32⟩
  | 27 => ⟨S16x2x16x2, .f32⟩
  | 28 => ⟨S32x32, .f32⟩
  | 29 => ⟨S32x1x32x1, .f32⟩
  | 30 => ⟨S1x2x1x2, .f32⟩
  | 31 => ⟨S32x2x32x2, .f32⟩
  | 32 => ⟨S32x2x32x2, .f32⟩
  | 33 => ⟨S32x2x32x2, .f32⟩
  | 34 => ⟨S64x64, .f32⟩
  | 35 => ⟨S64x1x64x1, .f32⟩
  | 36 => ⟨S1x2x1x2, .f32⟩
  | 37 => ⟨S64x2x64x2, .f32⟩
  | 38 => ⟨S64x2x64x2, .f32⟩
  | 39 => ⟨S64x2x64x2, .f32⟩
  | 40 => ⟨S128x128, .f32⟩
  | 41 => ⟨S_, .f32⟩
  | 42 => ⟨S128x128, .f32⟩
  | 43 => ⟨S128x128, .f32⟩
  | 44 => ⟨S3x1024x6144, .f32⟩
  | 45 => ⟨S3x1024x48x128, .f32⟩
  | 46 => ⟨S3x1024x48x128, .f32⟩
  | 47 => ⟨S3x1024x6144, .f32⟩
  | 48 => ⟨S3x1024x6144, .f32⟩
  | 49 => ⟨S3x1024x48x128, .f32⟩
  | 50 => ⟨S3x1024x48x128, .f32⟩
  | 51 => ⟨S3x1024x6144, .f32⟩
  | 52 => ⟨S3072x16384, .i32⟩
  | 53 => ⟨S48x16384, .bf16⟩
  | 54 => ⟨S48x64x16384, .bf16⟩
  | 55 => ⟨S3072x16384, .bf16⟩
  | 56 => ⟨S_, .i32⟩
  | 57 => ⟨S3072x16384, .i32⟩
  | 58 => ⟨S3072x16384, .i32⟩
  | 59 => ⟨S_, .i32⟩
  | 60 => ⟨S3072x16384, .i32⟩
  | 61 => ⟨S3072x16384, .i1⟩
  | 62 => ⟨S_, .i32⟩
  | 63 => ⟨S3072x16384, .i32⟩
  | 64 => ⟨S3072x16384, .i32⟩
  | 65 => ⟨S3072x16384, .i32⟩
  | 66 => ⟨S3072x16384, .bf16⟩
  | 67 => ⟨S3072x16384, .bf16⟩
  | 68 => ⟨S_, .i32⟩
  | 69 => ⟨S3072x16384, .i32⟩
  | 70 => ⟨S3072x16384, .i32⟩
  | 71 => ⟨S_, .i32⟩
  | 72 => ⟨S3072x16384, .i32⟩
  | 73 => ⟨S3072x16384, .i1⟩
  | 74 => ⟨S_, .i32⟩
  | 75 => ⟨S3072x16384, .i32⟩
  | 76 => ⟨S3072x16384, .i32⟩
  | 77 => ⟨S3072x16384, .i32⟩
  | 78 => ⟨S3072x16384, .bf16⟩
  | 79 => ⟨S3072x16384, .bf16⟩
  | 80 => ⟨S3x1024x48x128, .f32⟩
  | 81 => ⟨S3x1024x48x128, .f32⟩
  | 82 => ⟨S_, .f32⟩
  | 83 => ⟨S3x1024x48, .f32⟩
  | 84 => ⟨S_, .f32⟩
  | 85 => ⟨S3x1024x48, .f32⟩
  | 86 => ⟨S3x1024x48, .i1⟩
  | 87 => ⟨S_, .f32⟩
  | 88 => ⟨S3x1024x48, .f32⟩
  | 89 => ⟨S3x1024x48, .f32⟩
  | 90 => ⟨S_, .f32⟩
  | 91 => ⟨S3x1024x48, .f32⟩
  | 92 => ⟨S3x1024x48, .f32⟩
  | 93 => ⟨S3x1024x48x1, .f32⟩
  | 94 => ⟨S3x1024x48x128, .f32⟩
  | 95 => ⟨S3x1024x48x128, .f32⟩
  | 96 => ⟨S3x1024x48x128, .f32⟩
  | 97 => ⟨S_, .f32⟩
  | 98 => ⟨S_, .f32⟩
  | 99 => ⟨S_, .f32⟩
  | 100 => ⟨S3x1024x48x128, .f32⟩
  | 101 => ⟨S3x1024x48x128, .f32⟩
  | 102 => ⟨S_, .f32⟩
  | 103 => ⟨S3x1024x48x128, .f32⟩
  | 104 => ⟨S3x1024x48x128, .f32⟩
  | 105 => ⟨S3x1024x48x128, .i32⟩
  | 106 => ⟨S3x1024x48x128, .i8⟩
  | 107 => ⟨S3x1024x6144, .i8⟩
  | 108 => ⟨S3x1024x48, .bf16⟩
  | 109 => ⟨S3x1024x48x64, .bf16⟩
  | 110 => ⟨S3x1024x3072, .bf16⟩
  | 111 => ⟨S3x1024x3072, .i8⟩
  | 112 => ⟨S3x1024x3072, .i32⟩
  | 113 => ⟨S3x1024x3072, .bf16⟩
  | 114 => ⟨S3x1024x3072, .bf16⟩
  | 115 => ⟨S3x1024x3072, .i8⟩
  | 116 => ⟨S3x1024x3072, .i32⟩
  | 117 => ⟨S3x1024x3072, .bf16⟩
  | 118 => ⟨S3x1024x3072, .bf16⟩
  | 119 => ⟨S3x1024x16384, .f32⟩
  | 120 => ⟨S3x1024x16384, .f32⟩
  | 121 => ⟨S3x1024x16384, .f32⟩
  | 122 => ⟨S3x1024x16384, .bf16⟩
  | 123 => ⟨S3x1024x6144, .bf16⟩
  | 124 => ⟨S3x1024x3072, .bf16⟩
  | 125 => ⟨S3x1024x3072, .bf16⟩
  | 126 => ⟨S3x1024x16384, .f32⟩
  | 127 => ⟨S3x1024x16384, .f32⟩
  | _ => ⟨S3x1024x6144, .bf16⟩

abbrev hbmTy0_1 (i : Nat) : BufTy := match i % 128 with
  | 0 => ⟨S3x1024x16384, .f32⟩
  | 1 => ⟨S3x1024x16384, .bf16⟩
  | _ => ⟨S3x1024x6144, .bf16⟩

abbrev hbmTy (i : Nat) : BufTy := match i / 128 with
  | 0 => hbmTy0_0 i
  | 1 => hbmTy0_1 i
  | _ => ⟨S3x1024x6144, .bf16⟩

abbrev bufTy : (tb : Table) → Fin (tcTables nBuf tb) → BufTy
  | .hbm, ⟨i, _⟩ => hbmTy i
  | _, _ => ⟨S3x1024x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v1 : Ref sig .tc := ⟨.hbm, 16, rfl⟩
abbrev main_call2_v0 : Ref sig .tc := ⟨.hbm, 17, rfl⟩
abbrev main_call2_v1 : Ref sig .tc := ⟨.hbm, 18, rfl⟩
abbrev main_call2_v2 : Ref sig .tc := ⟨.hbm, 19, rfl⟩
abbrev main_call2_v3 : Ref sig .tc := ⟨.hbm, 20, rfl⟩
abbrev main_call2_v4 : Ref sig .tc := ⟨.hbm, 21, rfl⟩
abbrev main_v2 : Ref sig .tc := ⟨.hbm, 22, rfl⟩
abbrev main_call3_v0 : Ref sig .tc := ⟨.hbm, 23, rfl⟩
abbrev main_call3_v1 : Ref sig .tc := ⟨.hbm, 24, rfl⟩
abbrev main_call3_v2 : Ref sig .tc := ⟨.hbm, 25, rfl⟩
abbrev main_call3_v3 : Ref sig .tc := ⟨.hbm, 26, rfl⟩
abbrev main_call3_v4 : Ref sig .tc := ⟨.hbm, 27, rfl⟩
abbrev main_v3 : Ref sig .tc := ⟨.hbm, 28, rfl⟩
abbrev main_call4_v0 : Ref sig .tc := ⟨.hbm, 29, rfl⟩
abbrev main_call4_v1 : Ref sig .tc := ⟨.hbm, 30, rfl⟩
abbrev main_call4_v2 : Ref sig .tc := ⟨.hbm, 31, rfl⟩
abbrev main_call4_v3 : Ref sig .tc := ⟨.hbm, 32, rfl⟩
abbrev main_call4_v4 : Ref sig .tc := ⟨.hbm, 33, rfl⟩
abbrev main_v4 : Ref sig .tc := ⟨.hbm, 34, rfl⟩
abbrev main_call5_v0 : Ref sig .tc := ⟨.hbm, 35, rfl⟩
abbrev main_call5_v1 : Ref sig .tc := ⟨.hbm, 36, rfl⟩
abbrev main_call5_v2 : Ref sig .tc := ⟨.hbm, 37, rfl⟩
abbrev main_call5_v3 : Ref sig .tc := ⟨.hbm, 38, rfl⟩
abbrev main_call5_v4 : Ref sig .tc := ⟨.hbm, 39, rfl⟩
abbrev main_v5 : Ref sig .tc := ⟨.hbm, 40, rfl⟩
abbrev main_cst_0 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_c : Ref sig .tc := ⟨.hbm, 56, rfl⟩
abbrev main_v20 : Ref sig .tc := ⟨.hbm, 57, rfl⟩
abbrev main_v21 : Ref sig .tc := ⟨.hbm, 58, rfl⟩
abbrev main_c_1 : Ref sig .tc := ⟨.hbm, 59, rfl⟩
abbrev main_v22 : Ref sig .tc := ⟨.hbm, 60, rfl⟩
abbrev main_v23 : Ref sig .tc := ⟨.hbm, 61, rfl⟩
abbrev main_c_2 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_c_3 : Ref sig .tc := ⟨.hbm, 68, rfl⟩
abbrev main_v29 : Ref sig .tc := ⟨.hbm, 69, rfl⟩
abbrev main_v30 : Ref sig .tc := ⟨.hbm, 70, rfl⟩
abbrev main_c_4 : Ref sig .tc := ⟨.hbm, 71, rfl⟩
abbrev main_v31 : Ref sig .tc := ⟨.hbm, 72, rfl⟩
abbrev main_v32 : Ref sig .tc := ⟨.hbm, 73, rfl⟩
abbrev main_c_5 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_cst_6 : Ref sig .tc := ⟨.hbm, 82, rfl⟩
abbrev main_v40 : Ref sig .tc := ⟨.hbm, 83, rfl⟩
abbrev main_cst_7 : Ref sig .tc := ⟨.hbm, 84, rfl⟩
abbrev main_v41 : Ref sig .tc := ⟨.hbm, 85, rfl⟩
abbrev main_v42 : Ref sig .tc := ⟨.hbm, 86, rfl⟩
abbrev main_cst_8 : Ref sig .tc := ⟨.hbm, 87, rfl⟩
abbrev main_v43 : Ref sig .tc := ⟨.hbm, 88, rfl⟩
abbrev main_v44 : Ref sig .tc := ⟨.hbm, 89, rfl⟩
abbrev main_cst_9 : Ref sig .tc := ⟨.hbm, 90, rfl⟩
abbrev main_call8_v0 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_cst_10 : Ref sig .tc := ⟨.hbm, 97, rfl⟩
abbrev main_cst_11 : Ref sig .tc := ⟨.hbm, 98, rfl⟩
abbrev main_call10_v0 : Ref sig .tc := ⟨.hbm, 99, rfl⟩
abbrev main_call10_v1 : Ref sig .tc := ⟨.hbm, 100, rfl⟩
abbrev main_call10_v2 : Ref sig .tc := ⟨.hbm, 101, rfl⟩
abbrev main_call10_v3 : Ref sig .tc := ⟨.hbm, 102, rfl⟩
abbrev main_call10_v4 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩

abbrev nD : Nat := 1
abbrev τ : Topo := Topo.v7x

variable {F : FTy → Type} [FloatOps F]
-- ==== Proof.KernelIdealRun.Prep1.lean ====
/- The body of the first call (rotation and quantisation): its windows, its branch condition, and the body's run at
   the first grid point, where the rotation matrix is written into the scratch. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev VO0_2 : View sig .tc .vmem S256x6144 .bf16 := (Memref.whole cc0_stg2_0 : Memref sig .tc .vmem S256x6144 .bf16).view
abbrev VO0_3 : View sig .tc .vmem S256x6144 .bf16 := (Memref.whole cc0_stg3_0 : Memref sig .tc .vmem S256x6144 .bf16).view
abbrev VO0_4 : View sig .tc .vmem S256x6144 .i8 := (Memref.whole cc0_stg4_0 : Memref sig .tc .vmem S256x6144 .i8).view
abbrev VO0_5 : View sig .tc .vmem S256x48 .f32 := (Memref.whole cc0_stg5_0 : Memref sig .tc .vmem S256x48 .f32).view
abbrev ms0_0 (t : Fin cfg0.N) : Memref sig .tc .vmem S256x6144 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x6144 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x6144 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x6144 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x6144 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x48 .f32 := win0_5.stage (cfg0.slots t 5)
abbrev hs0_5 (t : Fin cfg0.N) : (ms0_5 t).IsWhole := hstage0_5 ((cfg0.slots t 5).cast nbuf0_5)
abbrev scM0_0 : Memref sig .tc .vmem S256x256 .bf16 := Memref.whole cc0_scratch0

/-- What region 0 keeps of the scoped buffers beside its own scratch: the later regions' buffers, each at some contents. -/
def rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- The region invariant, its scratch owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, e0]
    word_cmp
   : ∀ t : Fin grid0.N, cond0_0 (grid0.coords t) ↔ t.val % 12 = 0)

abbrev VS0_0 : View sig .tc .vmem S256x256 .bf16 := scM0_0.view

set_option maxHeartbeats 2000000 in
noncomputable def kernelRun0_A (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : cond0_0 i)
    (x0 : Vec F S256x6144 .bf16) (x1 : Vec F S256x6144 .bf16) :
    Σ' (L2 : List (View.Piece (Elt F) S256x6144 .bf16)), Σ' (L3 : List (View.Piece (Elt F) S256x6144 .bf16)), Σ' (L4 : List (View.Piece (Elt F) S256x6144 .i8)), Σ' (L5 : List (View.Piece (Elt F) S256x48 .f32)), { LS0 : List (View.Piece (Elt F) S256x256 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0_rotate_quant i arg1 harg1 arg2 harg2 arg3 harg3 arg4 harg4 arg5 harg5 arg6 harg6 arg7 harg7) K } := by
  refine ⟨?_, ?_, ?_, ?_, ?_, fun E K => ?run⟩
  case run =>
    simp only [cc0_rotate_quant_eq_skeleton]; unfold cc0_rotate_quant_skel
    simp only [k0_part47_eq_skeleton, k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    iexists _; iexact HS0

end Cert.KernelIdeal.Run

end
-- ==== Proof.KernelIdealRun.Prep2.lean ====
/- The body's run at the later grid points, where the scratch holds the rotation matrix already. -/
module

public import proofs.«01_k».proof.Proof.KernelIdealRun.Prep1

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1976000 in
noncomputable def kernelRun0_B (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : ¬cond0_0 i)
    (x0 : Vec F S256x6144 .bf16) (x1 : Vec F S256x6144 .bf16) (xs0 : Vec F S256x256 .bf16) :
    Σ' (L2 : List (View.Piece (Elt F) S256x6144 .bf16)), Σ' (L3 : List (View.Piece (Elt F) S256x6144 .bf16)), Σ' (L4 : List (View.Piece (Elt F) S256x6144 .i8)), Σ' (L5 : List (View.Piece (Elt F) S256x48 .f32)), { LS0 : List (View.Piece (Elt F) S256x256 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg7 fullShare xs0) -∗ K ⟨⟩))
          ⊢ wp frame (wpE (defs₀ (F := F)) Variants.none c none) E (cc0_rotate_quant i arg1 harg1 arg2 harg2 arg3 harg3 arg4 harg4 arg5 harg5 arg6 harg6 arg7 harg7) K } := by
  refine ⟨?_, ?_, ?_, ?_, [], fun E K => ?run⟩
  case run =>
    simp only [cc0_rotate_quant_eq_skeleton]; unfold cc0_rotate_quant_skel
    simp only [k0_part47_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    iexists _; isplitr; · ipureintro; exact harg7.read_unread _
    iexact HS0

end Cert.KernelIdeal.Run

end
-- ==== Proof.KernelIdealRun.Prep.lean ====
/- The first call's proof data: what each output window and the carried scratch hold after each grid point. -/
module

public import proofs.«01_k».proof.Proof.KernelIdealRun.Prep2

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover0_A_2 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : cond0_0 i)
    (x0 : Vec F S256x6144 .bf16) (x1 : Vec F S256x6144 .bf16) (y : S256x6144.Idx) :
    ∃ pc ∈ (kernelRun0_A c i arg1 harg1 arg2 harg2 arg3 harg3 arg4 harg4 arg5 harg5 arg6 harg6 arg7 harg7 hc0 x0 x1).1, y ∈ pc.1.set :=
  View.cover_of_tiledL (kernelRun0_A c i arg1 harg1 arg2 harg2 arg3 harg3 arg4 harg4 arg5 harg5 arg6 harg6 arg7 harg7 hc0 x0 x1).1 S256x128.size (by sl_kernel_rfl) y

def out0_A_2 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : cond0_0 i)
    (x0 : Vec F S256x6144 .bf16) (x1 : Vec F S256x6144 .bf16) : Vec F S256x6144 .bf16 :=
  VO0_2.read (Elt F) (VO0_2.writes (Elt F) VO0_2.junk (kernelRun0_A c i arg1 harg1 arg2 harg2 arg3 harg3 arg4 harg4 arg5 harg5 arg6 harg6 arg7 harg7 hc0 x0 x1).1)

theorem cover0_A_3 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : cond0_0 i)
    (x0 : Vec F S256x6144 .bf16) (x1 : Vec F S256x6144 .bf16) (y : S256x6144.Idx) :
    ∃ pc ∈ (kernelRun0_A c i arg1 harg1 arg2 harg2 arg3 harg3 arg4 harg4 arg5 harg5 arg6 harg6 arg7 harg7 hc0 x0 x1).2.1, y ∈ pc.1.set :=
  View.cover_of_tiledL (kernelRun0_A c i arg1 harg1 arg2 harg2 arg3 harg3 arg4 harg4 arg5 harg5 arg6 harg6 arg7 harg7 hc0 x0 x1).2.1 S256x256.size (by sl_kernel_rfl) y

def out0_A_3 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : cond0_0 i)
    (x0 : Vec F S256x6144 .bf16) (x1 : Vec F S256x6144 .bf16) : Vec F S256x6144 .bf16 :=
  VO0_3.read (Elt F) (VO0_3.writes (Elt F) VO0_3.junk (kernelRun0_A c i arg1 harg1 arg2 harg2 arg3 harg3 arg4 harg4 arg5 harg5 arg6 harg6 arg7 harg7 hc0 x0 x1).2.1)

theorem cover0_A_4 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : cond0_0 i)
    (x0 : Vec F S256x6144 .bf16) (x1 : Vec F S256x6144 .bf16) (y : S256x6144.Idx) :
    ∃ pc ∈ (kernelRun0_A c i arg1 harg1 arg2 harg2 arg3 harg3 arg4 harg4 arg5 harg5 arg6 harg6 arg7 harg7 hc0 x0 x1).2.2.1, y ∈ pc.1.set :=
  View.cover_of_tiledL (kernelRun0_A c i arg1 harg1 arg2 harg2 arg3 harg3 arg4 harg4 arg5 harg5 arg6 harg6 arg7 harg7 hc0 x0 x1).2.2.1 S256x128.size (by sl_kernel_rfl) y

def out0_A_4 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : cond0_0 i)
    (x0 : Vec F S256x6144 .bf16) (x1 : Vec F S256x6144 .bf16) : Vec F S256x6144 .i8 :=
  VO0_4.read (Elt F) (VO0_4.writes (Elt F) VO0_4.junk (kernelRun0_A c i arg1 harg1 arg2 harg2 arg3 harg3 arg4 harg4 arg5 harg5 arg6 harg6 arg7 harg7 hc0 x0 x1).2.2.1)

theorem cover0_A_5 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : cond0_0 i)
    (x0 : Vec F S256x6144 .bf16) (x1 : Vec F S256x6144 .bf16) (y : S256x48.Idx) :
    ∃ pc ∈ (kernelRun0_A c i arg1 harg1 arg2 harg2 arg3 harg3 arg4 harg4 arg5 harg5 arg6 harg6 arg7 harg7 hc0 x0 x1).2.2.2.1, y ∈ pc.1.set :=
  View.cover_of_tiledL (kernelRun0_A c i arg1 harg1 arg2 harg2 arg3 harg3 arg4 harg4 arg5 harg5 arg6 harg6 arg7 harg7 hc0 x0 x1).2.2.2.1 S256x48.size (by sl_kernel_rfl) y

def out0_A_5 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : cond0_0 i)
    (x0 : Vec F S256x6144 .bf16) (x1 : Vec F S256x6144 .bf16) : Vec F S256x48 .f32 :=
  VO0_5.read (Elt F) (VO0_5.writes (Elt F) VO0_5.junk (kernelRun0_A c i arg1 harg1 arg2 harg2 arg3 harg3 arg4 harg4 arg5 harg5 arg6 harg6 arg7 harg7 hc0 x0 x1).2.2.2.1)

theorem scover0_A_0 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : cond0_0 i)
    (x0 : Vec F S256x6144 .bf16) (x1 : Vec F S256x6144 .bf16) (y : S256x256.Idx) :
    ∃ pc ∈ (kernelRun0_A c i arg1 harg1 arg2 harg2 arg3 harg3 arg4 harg4 arg5 harg5 arg6 harg6 arg7 harg7 hc0 x0 x1).2.2.2.2.1, y ∈ pc.1.set :=
  View.cover_of_tiledL (kernelRun0_A c i arg1 harg1 arg2 harg2 arg3 harg3 arg4 harg4 arg5 harg5 arg6 harg6 arg7 harg7 hc0 x0 x1).2.2.2.2.1 S256x256.size (by sl_kernel_rfl) y

def sout0_A_0 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : cond0_0 i)
    (x0 : Vec F S256x6144 .bf16) (x1 : Vec F S256x6144 .bf16) : Vec F S256x256 .bf16 :=
  VS0_0.read (Elt F) (VS0_0.writes (Elt F) VS0_0.junk (kernelRun0_A c i arg1 harg1 arg2 harg2 arg3 harg3 arg4 harg4 arg5 harg5 arg6 harg6 arg7 harg7 hc0 x0 x1).2.2.2.2.1)

theorem cover0_B_2 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : ¬cond0_0 i)
    (x0 : Vec F S256x6144 .bf16) (x1 : Vec F S256x6144 .bf16) (xs0 : Vec F S256x256 .bf16) (y : S256x6144.Idx) :
    ∃ pc ∈ (kernelRun0_B c i arg1 harg1 arg2 harg2 arg3 harg3 arg4 harg4 arg5 harg5 arg6 harg6 arg7 harg7 hc0 x0 x1 xs0).1, y ∈ pc.1.set :=
  View.cover_of_tiledL (kernelRun0_B c i arg1 harg1 arg2 harg2 arg3 harg3 arg4 harg4 arg5 harg5 arg6 harg6 arg7 harg7 hc0 x0 x1 xs0).1 S256x128.size (by sl_kernel_rfl) y

def out0_B_2 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : ¬cond0_0 i)
    (x0 : Vec F S256x6144 .bf16) (x1 : Vec F S256x6144 .bf16) (xs0 : Vec F S256x256 .bf16) : Vec F S256x6144 .bf16 :=
  VO0_2.read (Elt F) (VO0_2.writes (Elt F) VO0_2.junk (kernelRun0_B c i arg1 harg1 arg2 harg2 arg3 harg3 arg4 harg4 arg5 harg5 arg6 harg6 arg7 harg7 hc0 x0 x1 xs0).1)

theorem cover0_B_3 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : ¬cond0_0 i)
    (x0 : Vec F S256x6144 .bf16) (x1 : Vec F S256x6144 .bf16) (xs0 : Vec F S256x256 .bf16) (y : S256x6144.Idx) :
    ∃ pc ∈ (kernelRun0_B c i arg1 harg1 arg2 harg2 arg3 harg3 arg4 harg4 arg5 harg5 arg6 harg6 arg7 harg7 hc0 x0 x1 xs0).2.1, y ∈ pc.1.set :=
  View.cover_of_tiledL (kernelRun0_B c i arg1 harg1 arg2 harg2 arg3 harg3 arg4 harg4 arg5 harg5 arg6 harg6 arg7 harg7 hc0 x0 x1 xs0).2.1 S256x256.size (by sl_kernel_rfl) y

def out0_B_3 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : ¬cond0_0 i)
    (x0 : Vec F S256x6144 .bf16) (x1 : Vec F S256x6144 .bf16) (xs0 : Vec F S256x256 .bf16) : Vec F S256x6144 .bf16 :=
  VO0_3.read (Elt F) (VO0_3.writes (Elt F) VO0_3.junk (kernelRun0_B c i arg1 harg1 arg2 harg2 arg3 harg3 arg4 harg4 arg5 harg5 arg6 harg6 arg7 harg7 hc0 x0 x1 xs0).2.1)

theorem cover0_B_4 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : ¬cond0_0 i)
    (x0 : Vec F S256x6144 .bf16) (x1 : Vec F S256x6144 .bf16) (xs0 : Vec F S256x256 .bf16) (y : S256x6144.Idx) :
    ∃ pc ∈ (kernelRun0_B c i arg1 harg1 arg2 harg2 arg3 harg3 arg4 harg4 arg5 harg5 arg6 harg6 arg7 harg7 hc0 x0 x1 xs0).2.2.1, y ∈ pc.1.set :=
  View.cover_of_tiledL (kernelRun0_B c i arg1 harg1 arg2 harg2 arg3 harg3 arg4 harg4 arg5 harg5 arg6 harg6 arg7 harg7 hc0 x0 x1 xs0).2.2.1 S256x128.size (by sl_kernel_rfl) y

def out0_B_4 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : ¬cond0_0 i)
    (x0 : Vec F S256x6144 .bf16) (x1 : Vec F S256x6144 .bf16) (xs0 : Vec F S256x256 .bf16) : Vec F S256x6144 .i8 :=
  VO0_4.read (Elt F) (VO0_4.writes (Elt F) VO0_4.junk (kernelRun0_B c i arg1 harg1 arg2 harg2 arg3 harg3 arg4 harg4 arg5 harg5 arg6 harg6 arg7 harg7 hc0 x0 x1 xs0).2.2.1)

theorem cover0_B_5 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : ¬cond0_0 i)
    (x0 : Vec F S256x6144 .bf16) (x1 : Vec F S256x6144 .bf16) (xs0 : Vec F S256x256 .bf16) (y : S256x48.Idx) :
    ∃ pc ∈ (kernelRun0_B c i arg1 harg1 arg2 harg2 arg3 harg3 arg4 harg4 arg5 harg5 arg6 harg6 arg7 harg7 hc0 x0 x1 xs0).2.2.2.1, y ∈ pc.1.set :=
  View.cover_of_tiledL (kernelRun0_B c i arg1 harg1 arg2 harg2 arg3 harg3 arg4 harg4 arg5 harg5 arg6 harg6 arg7 harg7 hc0 x0 x1 xs0).2.2.2.1 S256x48.size (by sl_kernel_rfl) y

def out0_B_5 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : ¬cond0_0 i)
    (x0 : Vec F S256x6144 .bf16) (x1 : Vec F S256x6144 .bf16) (xs0 : Vec F S256x256 .bf16) : Vec F S256x48 .f32 :=
  VO0_5.read (Elt F) (VO0_5.writes (Elt F) VO0_5.junk (kernelRun0_B c i arg1 harg1 arg2 harg2 arg3 harg3 arg4 harg4 arg5 harg5 arg6 harg6 arg7 harg7 hc0 x0 x1 xs0).2.2.2.1)

def sout0_B_0 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : ¬cond0_0 i)
    (x0 : Vec F S256x6144 .bf16) (x1 : Vec F S256x6144 .bf16) (xs0 : Vec F S256x256 .bf16) : Vec F S256x256 .bf16 := xs0

def outsAt0 (c : Dev nD) : (n : ℕ) → n < cfg0.N → Vec F S256x6144 .bf16 × Vec F S256x6144 .bf16 × Vec F S256x6144 .i8 × Vec F S256x48 .f32 × Vec F S256x256 .bf16
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk0 V c 0 ⟨0, hn⟩) (iblk0 V c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk0 V c 0 ⟨0, hn⟩) (iblk0 V c 1 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk0 V c 0 ⟨0, hn⟩) (iblk0 V c 1 ⟨0, hn⟩))
  | n + 1, hn =>
    if h0 : (n + 1) % 12 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk0 V c 0 ⟨n + 1, hn⟩) (iblk0 V c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk0 V c 0 ⟨n + 1, hn⟩) (iblk0 V c 1 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2.2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2.2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2.2.2.2)

theorem outsAt0_A (c : Dev nD) (t : Fin cfg0.N) (h0 : t.val % 12 = 0) :
    outsAt0 V c t.val t.isLt = (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk0 V c 0 t) (iblk0 V c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk0 V c 0 t) (iblk0 V c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk0 V c 0 t) (iblk0 V c 1 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk0 V c 0 t) (iblk0 V c 1 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 12 = 0) :
    outsAt0 V c t.val t.isLt = (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2.2.2.2, out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2.2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.2) ∗ rest0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2.1
    | ⟨5, _⟩ => (outsAt0 V c t.val t.isLt).2.2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2.1 := by dsimp only [dat0]
theorem after0_5 (c : Dev nD) (t : Fin cfg0.N) : (dat0 V c).after 5 t = (outsAt0 V c t.val t.isLt).2.2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 6400000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    after0_0, after0_1, after0_2, after0_3, after0_4, after0_5]
  rw [show (dat0 V c).Φ t.succ = PhiS V c (t.val + 1) t.isLt from rfl, PhiS_succ]
  have hN : t.val < 12 := lt_of_lt_of_eq t.isLt (show cfg0.N = 12 from N_0)
  by_cases h0 : t.val % 12 = 0
  · by_cases hz : t.val = 0
    · rw [PhiS_castSucc V c t, PhiS_zero V c _ _ hz, PhiA0_eq]
      rw [outsAt0_A V c t h0]
      unfold out0_A_2 out0_A_3 out0_A_4 out0_A_5 sout0_A_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk0 V c 0 t) (iblk0 V c 1 t)).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [HS0]; · iexact HS0
      iintro ⟨H0, H1, ⟨%e2, H2⟩, ⟨%e3, H3⟩, ⟨%e4, H4⟩, ⟨%e5, H5⟩, ⟨%es0, HS0⟩⟩
      isplitl [HS0 HR Hg]
      · isplitl [HS0 HR]
        · isplitl [HS0]
          swap; · iexact HR
          unfold owns; iexists _; isplitr
          swap; · iexact HS0
          ipureintro; exact View.read_writes_of_cover _ _ _ _ _ (scover0_A_0 c _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _ _ _)
      isplitl [H3]
      · unfold owns; iexists _; isplitr
        swap; · iexact H3
        ipureintro; exact View.read_writes_of_cover _ _ _ _ _ (cover0_A_3 c _ _ _ _ _ _ _ _ _ _ _ _ _ _ _ _ _ _)
      isplitl [H4]
      · unfold owns; iexists _; isplitr
        swap; · iexact H4
        ipureintro; exact View.read_writes_of_cover _ _ _ _ _ (cover0_A_4 c _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _)
    · exfalso; have hN : t.val < 12 := lt_of_lt_of_eq t.isLt (show cfg0.N = 12 from N_0); omega
  · by_cases hz : t.val = 0
    · exfalso; have hN : t.val < 12 := lt_of_lt_of_eq t.isLt (show cfg0.N = 12 from N_0); omega
    · rw [PhiS_castSucc V c t, PhiS_pos V c _ _ hz]
      rw [outsAt0_B V c t h0]
      unfold out0_B_2 out0_B_3 out0_B_4 out0_B_5 sout0_B_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (iblk0 V c 0 t) (iblk0 V c 1 t) _).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [HS0]; · iexact HS0
      iintro ⟨H0, H1, ⟨%e2, H2⟩, ⟨%e3, H3⟩, ⟨%e4, H4⟩, ⟨%e5, H5⟩, HS0⟩
      isplitl [HS0 HR Hg]
      · isplitl [HS0 HR]
        · isplitl [HS0] <;> iassumption
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _ _ _ _)
      isplitl [H3]
      · unfold owns; iexists _; isplitr
        swap; · iexact H3
        ipureintro; exact View.read_writes_of_cover _ _ _ _ _ (cover0_B_3 c _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _)
      unfold owns; iexists _; isplitr
      swap; · iexact H5
      ipureintro; exact View.read_writes_of_cover _ _ _ _ _ (cover0_B_5 c _ _ _ _ _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out V c _ (by rw [Fin.val_last]; have : cfg0.N = 12 := N_0; omega)

end Cert.KernelIdeal.Run

end
-- ==== Proof.KernelIdealRun.Matmul1.lean ====
/- The second call (the draft product): its windows, its body's run and its proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev VO1_3 : View sig .tc .vmem S1024x512 .bf16 := (Memref.whole cc1_stg3_0 : Memref sig .tc .vmem S1024x512 .bf16).view
abbrev ms1_0 (t : Fin cfg1.N) : Memref sig .tc .vmem S1024x6144 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3072x512 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S48x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .bf16 := win1_3.stage (cfg1.slots t 3)
abbrev hs1_3 (t : Fin cfg1.N) : (ms1_3 t).IsWhole := hstage1_3 ((cfg1.slots t 3).cast nbuf1_3)
abbrev scM1_0 : Memref sig .tc .vmem S6144x512 .bf16 := Memref.whole cc1_scratch0

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f)) ∗ (∃ r, prngReg c r)) := by
  unfold Pipeline.ΦA; rw [scopedRest1_eq]; simp only [scM1_0, owns_whole]; try rfl

set_option maxHeartbeats 1256000 in
noncomputable def kernelRun1_A (c : Dev nD) (i : grid1.Coords) (arg2 : Memref sig .tc .vmem S1024x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S1024x512 .bf16) (harg5 : arg5.IsWhole) (arg6 : Memref sig .tc .vmem S6144x512 .bf16) (harg6 : arg6.IsWhole)
    (x0 : Vec F S1024x6144 .bf16) (x1 : Vec F S3072x512 .i8) (x2 : Vec F S48x512 .f32) :
    Σ' (L3 : List (View.Piece (Elt F) S1024x512 .bf16)), { LT0 : List (View.Piece (Elt F) S6144x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LT0)) -∗ K ⟨⟩))
          ⊢ wp frame (wpE (defs₀ (F := F)) Variants.none c none) E (cc1_w4_matmul i arg2 harg2 arg3 harg3 arg4 harg4 arg5 harg5 arg6 harg6) K } := by
  refine ⟨?_, ?_, fun E K => ?run⟩
  case run =>
    simp only [cc1_w4_matmul_eq_skeleton]; unfold cc1_w4_matmul_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

theorem cover1_A_3 (c : Dev nD) (i : grid1.Coords) (arg2 : Memref sig .tc .vmem S1024x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S1024x512 .bf16) (harg5 : arg5.IsWhole) (arg6 : Memref sig .tc .vmem S6144x512 .bf16) (harg6 : arg6.IsWhole)
    (x0 : Vec F S1024x6144 .bf16) (x1 : Vec F S3072x512 .i8) (x2 : Vec F S48x512 .f32) (y : S1024x512.Idx) :
    ∃ pc ∈ (kernelRun1_A c i arg2 harg2 arg3 harg3 arg4 harg4 arg5 harg5 arg6 harg6 x0 x1 x2).1, y ∈ pc.1.set :=
  View.cover_of_tiledL (kernelRun1_A c i arg2 harg2 arg3 harg3 arg4 harg4 arg5 harg5 arg6 harg6 x0 x1 x2).1 S1024x512.size (by sl_kernel_rfl) y

def out1_A_3 (c : Dev nD) (i : grid1.Coords) (arg2 : Memref sig .tc .vmem S1024x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S1024x512 .bf16) (harg5 : arg5.IsWhole) (arg6 : Memref sig .tc .vmem S6144x512 .bf16) (harg6 : arg6.IsWhole)
    (x0 : Vec F S1024x6144 .bf16) (x1 : Vec F S3072x512 .i8) (x2 : Vec F S48x512 .f32) : Vec F S1024x512 .bf16 :=
  VO1_3.read (Elt F) (VO1_3.writes (Elt F) VO1_3.junk (kernelRun1_A c i arg2 harg2 arg3 harg3 arg4 harg4 arg5 harg5 arg6 harg6 x0 x1 x2).1)

def outsAt1 (c : Dev nD) (t : Fin cfg1.N) : Vec F S1024x512 .bf16 :=
  out1_A_3 c (grid1.coords t) (ms1_0 t) (hs1_0 t) (ms1_1 t) (hs1_1 t) (ms1_2 t) (hs1_2 t) (ms1_3 t) (hs1_3 t) scM1_0 (Memref.isWhole_whole _) (iblk1 V c 0 t) (iblk1 V c 1 t) (iblk1 V c 2 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl, PhiA1_eq]
  unfold outsAt1
  unfold out1_A_3
  iintro ⟨⟨⟨HR0, HR1, HR2, HR3, HR4, HR5, HR6, HR7, HR8, HR9, HR10, HR11, HR12, HS0, HR14, HR15, HR16, HR17, HR18, HR19, HR20, HR21, HR22⟩, Hg⟩, Ho, ⟨%d0, H0⟩, ⟨%d1, H1⟩, ⟨%d2, H2⟩, ⟨%d3, H3⟩⟩
  iapply ((kernelRun1_A c (grid1.coords t) _ _ _ _ _ _ _ _ _ _ (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%fT0, HS0⟩⟩
  isplitl [HR0 HR1 HR2 HR3 HR4 HR5 HR6 HR7 HR8 HR9 HR10 HR11 HR12 HS0 HR14 HR15 HR16 HR17 HR18 HR19 HR20 HR21 HR22 Hg]
  · isplitl [HR0 HR1 HR2 HR3 HR4 HR5 HR6 HR7 HR8 HR9 HR10 HR11 HR12 HS0 HR14 HR15 HR16 HR17 HR18 HR19 HR20 HR21 HR22]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HS0]
      · iexists _; unfold owns; iexists _; isplitr
        swap; · iexact HS0
        ipureintro; rfl
      isplitl [HR14]
      · iexact HR14
      isplitl [HR15]
      · iexact HR15
      isplitl [HR16]
      · iexact HR16
      isplitl [HR17]
      · iexact HR17
      isplitl [HR18]
      · iexact HR18
      isplitl [HR19]
      · iexact HR19
      isplitl [HR20]
      · iexact HR20
      isplitl [HR21]
      · iexact HR21
      iexact HR22
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A_3 c _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.KernelIdealRun.Matmul2.lean ====
/- The third call (the verify product): its windows, its body's run and its proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev VO2_3 : View sig .tc .vmem S1024x512 .bf16 := (Memref.whole cc2_stg3_0 : Memref sig .tc .vmem S1024x512 .bf16).view
abbrev ms2_0 (t : Fin cfg2.N) : Memref sig .tc .vmem S1024x6144 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S3072x512 .i8 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S48x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x512 .bf16 := win2_3.stage (cfg2.slots t 3)
abbrev hs2_3 (t : Fin cfg2.N) : (ms2_3 t).IsWhole := hstage2_3 ((cfg2.slots t 3).cast nbuf2_3)
abbrev scM2_0 : Memref sig .tc .vmem S6144x512 .bf16 := Memref.whole cc2_scratch0

theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ d, owns (c : Thread nD τ) scM2_0 fullShare d)) ∗ (∃ r, prngReg c r)) := by
  unfold Pipeline.ΦA; rw [scopedRest2_eq]; simp only [scM2_0, owns_whole]; try rfl

set_option maxHeartbeats 1256000 in
noncomputable def kernelRun2_A (c : Dev nD) (i : grid2.Coords) (arg2 : Memref sig .tc .vmem S1024x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S1024x512 .bf16) (harg5 : arg5.IsWhole) (arg6 : Memref sig .tc .vmem S6144x512 .bf16) (harg6 : arg6.IsWhole)
    (x0 : Vec F S1024x6144 .bf16) (x1 : Vec F S3072x512 .i8) (x2 : Vec F S48x512 .f32) :
    Σ' (L3 : List (View.Piece (Elt F) S1024x512 .bf16)), { LT0 : List (View.Piece (Elt F) S6144x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LT0)) -∗ K ⟨⟩))
          ⊢ wp frame (wpE (defs₀ (F := F)) Variants.none c none) E (cc2_w4_matmul i arg2 harg2 arg3 harg3 arg4 harg4 arg5 harg5 arg6 harg6) K } := by
  refine ⟨?_, ?_, fun E K => ?run⟩
  case run =>
    simp only [cc2_w4_matmul_eq_skeleton]; unfold cc2_w4_matmul_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

theorem cover2_A_3 (c : Dev nD) (i : grid2.Coords) (arg2 : Memref sig .tc .vmem S1024x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S1024x512 .bf16) (harg5 : arg5.IsWhole) (arg6 : Memref sig .tc .vmem S6144x512 .bf16) (harg6 : arg6.IsWhole)
    (x0 : Vec F S1024x6144 .bf16) (x1 : Vec F S3072x512 .i8) (x2 : Vec F S48x512 .f32) (y : S1024x512.Idx) :
    ∃ pc ∈ (kernelRun2_A c i arg2 harg2 arg3 harg3 arg4 harg4 arg5 harg5 arg6 harg6 x0 x1 x2).1, y ∈ pc.1.set :=
  View.cover_of_tiledL (kernelRun2_A c i arg2 harg2 arg3 harg3 arg4 harg4 arg5 harg5 arg6 harg6 x0 x1 x2).1 S1024x512.size (by sl_kernel_rfl) y

def out2_A_3 (c : Dev nD) (i : grid2.Coords) (arg2 : Memref sig .tc .vmem S1024x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S1024x512 .bf16) (harg5 : arg5.IsWhole) (arg6 : Memref sig .tc .vmem S6144x512 .bf16) (harg6 : arg6.IsWhole)
    (x0 : Vec F S1024x6144 .bf16) (x1 : Vec F S3072x512 .i8) (x2 : Vec F S48x512 .f32) : Vec F S1024x512 .bf16 :=
  VO2_3.read (Elt F) (VO2_3.writes (Elt F) VO2_3.junk (kernelRun2_A c i arg2 harg2 arg3 harg3 arg4 harg4 arg5 harg5 arg6 harg6 x0 x1 x2).1)

def outsAt2 (c : Dev nD) (t : Fin cfg2.N) : Vec F S1024x512 .bf16 :=
  out2_A_3 c (grid2.coords t) (ms2_0 t) (hs2_0 t) (ms2_1 t) (hs2_1 t) (ms2_2 t) (hs2_2 t) (ms2_3 t) (hs2_3 t) scM2_0 (Memref.isWhole_whole _) (iblk2 V c 0 t) (iblk2 V c 1 t) (iblk2 V c 2 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  rw [show (dat2 V c).Φ t.castSucc = Pipeline.ΦA spec2 c from rfl, PhiA2_eq]
  unfold outsAt2
  unfold out2_A_3
  iintro ⟨⟨⟨HR0, HR1, HR2, HR3, HR4, HR5, HR6, HR7, HR8, HR9, HR10, HR11, HR12, HR13, HR14, HR15, HR16, HR17, HR18, HR19, HR20, HR21, HS0⟩, Hg⟩, Ho, ⟨%d0, H0⟩, ⟨%d1, H1⟩, ⟨%d2, H2⟩, ⟨%d3, H3⟩⟩
  iapply ((kernelRun2_A c (grid2.coords t) _ _ _ _ _ _ _ _ _ _ (iblk2 V c 0 t) (iblk2 V c 1 t) (iblk2 V c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%fT0, HS0⟩⟩
  isplitl [HR0 HR1 HR2 HR3 HR4 HR5 HR6 HR7 HR8 HR9 HR10 HR11 HR12 HR13 HR14 HR15 HR16 HR17 HR18 HR19 HR20 HR21 HS0 Hg]
  · isplitl [HR0 HR1 HR2 HR3 HR4 HR5 HR6 HR7 HR8 HR9 HR10 HR11 HR12 HR13 HR14 HR15 HR16 HR17 HR18 HR19 HR20 HR21 HS0]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      isplitl [HR15]
      · iexact HR15
      isplitl [HR16]
      · iexact HR16
      isplitl [HR17]
      · iexact HR17
      isplitl [HR18]
      · iexact HR18
      isplitl [HR19]
      · iexact HR19
      isplitl [HR20]
      · iexact HR20
      isplitl [HR21]
      · iexact HR21
      iexists _; unfold owns; iexists _; isplitr
      swap; · iexact HS0
      ipureintro; rfl
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_A_3 c _ _ _ _ _ _ _ _ _ _ _ _ _ _)

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Run

end
-- ==== Proof.KernelIdealRun.Main.lean ====
/- The run of the three calls in order, from the launch to the return. -/
module

public import proofs.«01_k».proof.Proof.KernelIdealRun.Prep
public import proofs.«01_k».proof.Proof.KernelIdealRun.Matmul1
public import proofs.«01_k».proof.Proof.KernelIdealRun.Matmul2

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3]

theorem hostOps0_fresh : (hostOps0 : List (HloOp τ sig (Elt F))).Forall fun op => op.fresh = ∅ := by
  simp only [List.Forall]; repeat' constructor
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v5, main_v6, main_v7, main_v8]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps3 (W4 m ρ c)
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem W5_args (c : Dev nD) : ∀ a ∈ argRefs, W5 m ρ c (Proc.devRef .tc a) = m ((c : Thread nD τ).loc a) :=
  fun a ha => (W5_of m ρ c a (hostOps3_args a ha)).trans (W4_args m ρ c a ha)

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.BIBase.Entails.trans ?_ (hin0 (V1 m ρ) c); unfold Pipeline.ΦA
    iintro ⟨Hp, -, Hr⟩
    isplitl [Hr]; · iexact Hr
    iexact Hp
  hout c := by
    rw [Pipeline.ownSems0_none]; refine BI.BIBase.Entails.trans (hout0 (V1 m ρ) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The whole run: every unscoped buffer ends at the last boundary's contents `W5`, every semaphore at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame claim: the argument arrays end as launched, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩, h.2⟩) (run_all m ρ)

end Cert.KernelIdeal.Run

end
-- ==== Proof.Value.PrepPieces.lean ====
/- What the body of the first call stores, said once for every pair of groups: the stores of the run, in the order they
   were made, are the same payload of the columns of that pair. -/
module

public import proofs.«01_k».proof.Proof.KernelIdealRun.Prep

@[expose] public section

set_option maxRecDepth 16384

noncomputable section

namespace Cert.KernelIdeal.Value

open Cert.KernelIdeal Cert.KernelIdeal.Gen Cert.KernelIdeal.Run
open Idealize.ShloMosaic Idealize.ShloMosaic.TcCoe Idealize.ShloMosaic.Tactic

variable {F : FTy → Type} [FloatOps F]

theorem inbW (p : ℕ) (h : p < 24) : ∀ a, (![0, 256 * p] : Fin 2 → ℕ) a + (![256, 256] : Fin 2 → ℕ) a ≤ S256x6144.size a := by
  intro a; fin_cases a
  · exact Nat.le_refl 256
  · show 256 * p + 256 ≤ 6144; omega

theorem inbE (p : ℕ) (h : p < 24) : ∀ a, (![0, 256 * p] : Fin 2 → ℕ) a + (![256, 128] : Fin 2 → ℕ) a ≤ S256x6144.size a := by
  intro a; fin_cases a
  · exact Nat.le_refl 256
  · show 256 * p + 128 ≤ 6144; omega

theorem inbO (p : ℕ) (h : p < 24) : ∀ a, (![0, 256 * p + 128] : Fin 2 → ℕ) a + (![256, 128] : Fin 2 → ℕ) a ≤ S256x6144.size a := by
  intro a; fin_cases a
  · exact Nat.le_refl 256
  · show 256 * p + 128 + 128 ≤ 6144; omega

/-- The columns of pair `p` of the row block a whole memref holds. -/
abbrev ldW (a : Memref sig .tc .vmem S256x6144 .bf16) (ha : a.IsWhole) (x : Vec F S256x6144 .bf16) (p : ℕ) (h : p < 24) : Vec F S256x256 .bf16 :=
  (View.readAt (Elt F) a.view (Rect.unit (s := S256x6144) (![0, 256 * p] : Fin 2 → ℕ) (![256, 256] : Fin 2 → ℕ) (inbW p h)).toLoadRect (ha.unread x) :)

/-- The bound 7 of the codes. -/
abbrev c7 : F .f32 := Scalar.ofBits .f32 0x40E00000#32

/-- The stores of the rotated verify row block, pairs `n - 1` to `0`. -/
def pcsXv (a : Memref sig .tc .vmem S256x6144 .bf16) (ha : a.IsWhole) (x : Vec F S256x6144 .bf16) (h : Vec F S256x256 .bf16) :
    (n : ℕ) → n ≤ 24 → List (View.Piece (Elt F) S256x6144 .bf16)
  | 0, _ => []
  | n + 1, hn => ⟨Rect.unit ![0, 256 * n] ![256, 256] (inbW n hn), k0_pay6 (ldW a ha x n hn) h⟩ :: pcsXv a ha x h n (Nat.le_of_succ_le hn)

/-- The stores of the dequantised draft row block, pairs `n - 1` to `0`. -/
def pcsXd (a : Memref sig .tc .vmem S256x6144 .bf16) (ha : a.IsWhole) (x : Vec F S256x6144 .bf16) (h : Vec F S256x256 .bf16) :
    (n : ℕ) → n ≤ 24 → List (View.Piece (Elt F) S256x6144 .bf16)
  | 0, _ => []
  | n + 1, hn => ⟨Rect.unit ![0, 256 * n + 128] ![256, 128] (inbO n hn), k0_pay19 (k0_pay7 (ldW a ha x n hn) h)⟩
      :: ⟨Rect.unit ![0, 256 * n] ![256, 128] (inbE n hn), k0_pay13 (k0_pay9 (ldW a ha x n hn) h) c7 (k0_pay10 (ldW a ha x n hn) h)⟩
      :: pcsXd a ha x h n (Nat.le_of_succ_le hn)

/-- The stores of the codes, pairs `n - 1` to `0`. -/
def pcsQ (a : Memref sig .tc .vmem S256x6144 .bf16) (ha : a.IsWhole) (x : Vec F S256x6144 .bf16) (h : Vec F S256x256 .bf16) :
    (n : ℕ) → n ≤ 24 → List (View.Piece (Elt F) S256x6144 .i8)
  | 0, _ => []
  | n + 1, hn => ⟨Rect.unit ![0, 256 * n + 128] ![256, 128] (inbO n hn), k0_pay18 (k0_pay7 (ldW a ha x n hn) h)⟩
      :: ⟨Rect.unit ![0, 256 * n] ![256, 128] (inbE n hn), k0_pay12 c7 (k0_pay10 (ldW a ha x n hn) h)⟩
      :: pcsQ a ha x h n (Nat.le_of_succ_le hn)

/-- The lane number of every element of a scale row block. -/
abbrev lane48 : IVec S256x48 32 := iota .tc S256x48 32 [1] iota_S256x48_d1_w32

/-- One group's scale put in its lane of the scale row block. -/
def putScale (g : BitVec 32) (s : FVec F S256x1 .f32) (acc : FVec F S256x48 .f32) : FVec F S256x48 .f32 :=
  select (cmpi .eq lane48 (broadcast S256x48 g)) (broadcastTo S256x48 (shapeCast S256x1 s shapeCasts_S256x1_S256x1) broadcasts_S256x1_S256x48) acc

/-- The scale row block after the first `n` pairs. -/
def scalesUpTo (a : Memref sig .tc .vmem S256x6144 .bf16) (ha : a.IsWhole) (x : Vec F S256x6144 .bf16) (h : Vec F S256x256 .bf16) :
    (n : ℕ) → n ≤ 24 → FVec F S256x48 .f32
  | 0, _ => k0_pay5
  | n + 1, hn => putScale (BitVec.ofNat 32 (2 * n + 1)) (k0_pay16 (k0_pay7 (ldW a ha x n hn) h))
      (putScale (BitVec.ofNat 32 (2 * n)) (k0_pay9 (ldW a ha x n hn) h) (scalesUpTo a ha x h n (Nat.le_of_succ_le hn)))

section
variable (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole)
  (x0 : Vec F S256x6144 .bf16) (x1 : Vec F S256x6144 .bf16) (xs0 : Vec F S256x256 .bf16)

/-- The rotation matrix as the body loads it, after the first point. -/
abbrev ldH (arg7 : Memref sig .tc .vmem S256x256 .bf16) (harg7 : arg7.IsWhole) (xs0 : Vec F S256x256 .bf16) : Vec F S256x256 .bf16 :=
  (View.readAt (Elt F) arg7.view (Rect.unit (s := S256x256) (![0, 0] : Fin 2 → ℕ) (![256, 256] : Fin 2 → ℕ) inb_S256x256_S256x256_0_0).toLoadRect (harg7.unread xs0) :)

theorem listB_xd (hc0 : ¬cond0_0 i) :
    (kernelRun0_B c i arg1 harg1 arg2 harg2 arg3 harg3 arg4 harg4 arg5 harg5 arg6 harg6 arg7 harg7 hc0 x0 x1 xs0).1
      = pcsXd arg1 harg1 x0 (ldH arg7 harg7 xs0) 24 (Nat.le_refl 24) := by sl_kernel_rfl

theorem listB_xv (hc0 : ¬cond0_0 i) :
    (kernelRun0_B c i arg1 harg1 arg2 harg2 arg3 harg3 arg4 harg4 arg5 harg5 arg6 harg6 arg7 harg7 hc0 x0 x1 xs0).2.1
      = pcsXv arg2 harg2 x1 (ldH arg7 harg7 xs0) 24 (Nat.le_refl 24) := by sl_kernel_rfl

theorem listB_q (hc0 : ¬cond0_0 i) :
    (kernelRun0_B c i arg1 harg1 arg2 harg2 arg3 harg3 arg4 harg4 arg5 harg5 arg6 harg6 arg7 harg7 hc0 x0 x1 xs0).2.2.1
      = pcsQ arg1 harg1 x0 (ldH arg7 harg7 xs0) 24 (Nat.le_refl 24) := by sl_kernel_rfl

theorem listB_s (hc0 : ¬cond0_0 i) :
    (kernelRun0_B c i arg1 harg1 arg2 harg2 arg3 harg3 arg4 harg4 arg5 harg5 arg6 harg6 arg7 harg7 hc0 x0 x1 xs0).2.2.2.1
      = [⟨Rect.unit ![0, 0] ![256, 48] inb_S256x48_S256x48_0_0, scalesUpTo arg1 harg1 x0 (ldH arg7 harg7 xs0) 24 (Nat.le_refl 24)⟩] := by sl_kernel_rfl

/-- The rotation matrix stored at the first point. -/
def hPair : FVec F S256x256 .bf16 :=
  k0_pay4 (iota .tc S256x256 32 [1] iota_S256x256_d1_w32) k0_pay2 k0_pay3 128#32

theorem listA_h (hc0 : cond0_0 i) :
    (kernelRun0_A c i arg1 harg1 arg2 harg2 arg3 harg3 arg4 harg4 arg5 harg5 arg6 harg6 arg7 harg7 hc0 x0 x1).2.2.2.2.1
      = [⟨Rect.unit ![0, 0] ![256, 256] inb_S256x256_S256x256_0_0, hPair (F := F)⟩] := by sl_kernel_rfl

/-- The rotation matrix as the body loads it back at the first point. -/
abbrev ldHA (arg7 : Memref sig .tc .vmem S256x256 .bf16) : Vec F S256x256 .bf16 :=
  (View.readCov (Val := Elt F) arg7.view [⟨Rect.unit ![0, 0] ![256, 256] inb_S256x256_S256x256_0_0, hPair (F := F)⟩] (Rect.unit (s := S256x256) (![0, 0] : Fin 2 → ℕ) (![256, 256] : Fin 2 → ℕ) inb_S256x256_S256x256_0_0).toLoadRect :)

theorem listA_xd (hc0 : cond0_0 i) :
    (kernelRun0_A c i arg1 harg1 arg2 harg2 arg3 harg3 arg4 harg4 arg5 harg5 arg6 harg6 arg7 harg7 hc0 x0 x1).1
      = pcsXd arg1 harg1 x0 (ldHA arg7) 24 (Nat.le_refl 24) := by sl_kernel_rfl

theorem listA_xv (hc0 : cond0_0 i) :
    (kernelRun0_A c i arg1 harg1 arg2 harg2 arg3 harg3 arg4 harg4 arg5 harg5 arg6 harg6 arg7 harg7 hc0 x0 x1).2.1
      = pcsXv arg2 harg2 x1 (ldHA arg7) 24 (Nat.le_refl 24) := by sl_kernel_rfl

theorem listA_q (hc0 : cond0_0 i) :
    (kernelRun0_A c i arg1 harg1 arg2 harg2 arg3 harg3 arg4 harg4 arg5 harg5 arg6 harg6 arg7 harg7 hc0 x0 x1).2.2.1
      = pcsQ arg1 harg1 x0 (ldHA arg7) 24 (Nat.le_refl 24) := by sl_kernel_rfl

theorem listA_s (hc0 : cond0_0 i) :
    (kernelRun0_A c i arg1 harg1 arg2 harg2 arg3 harg3 arg4 harg4 arg5 harg5 arg6 harg6 arg7 harg7 hc0 x0 x1).2.2.2.1
      = [⟨Rect.unit ![0, 0] ![256, 48] inb_S256x48_S256x48_0_0, scalesUpTo arg1 harg1 x0 (ldHA arg7) 24 (Nat.le_refl 24)⟩] := by sl_kernel_rfl

end

end Cert.KernelIdeal.Value

end
-- ==== Proof.Value.Spec.lean ====
/- What both programs compute, on one row of an input at a time: the rotation of each group of 128 columns, its scale, its
   codes, the weights a packed byte and a scale stand for, and the facts about them that the two proofs share. -/
module

public import Idealize.ShloMosaic.Lib.Pointwise

@[expose] public section

noncomputable section

namespace Cert.Spec

open Idealize.ShloMosaic

/-- Whether an odd number of the lowest `n` bits of `m` are set. -/
def par : ℕ → ℕ → Bool
  | 0, _ => false
  | n + 1, m => xor (par n (m / 2)) (m % 2 == 1)

/-- A sign: -1 or 1. -/
def sgnOf (b : Bool) : EReal := if b then -1 else 1

theorem sgnOf_xor (a b : Bool) : sgnOf (xor a b) = sgnOf a * sgnOf b := by
  cases a <;> cases b <;> simp [sgnOf]

/-- Entry `(i, j)` of the 128 x 128 sign matrix. -/
def sg (i j : Fin 128) : EReal := sgnOf (par 7 (i.val &&& j.val))

/-- The factor the rotation is scaled by. -/
def cst : EReal := Ideal.ofBits .f32 0x3DB504F3#32

theorem cst_real : ∃ r : ℝ, 0 ≤ r ∧ cst = (r : EReal) := by
  refine ⟨11863283 / 2 ^ 27, by norm_num, ?_⟩
  simp [cst, Ideal.ofBits, Ideal.ieee, -EReal.coe_mul]; norm_num

/-- Column `k` of group `g`. -/
def col (g : Fin 48) (k : Fin 128) : Fin 6144 := ⟨128 * g.val + k.val, by have := g.isLt; have := k.isLt; omega⟩

/-- The rotated row. -/
def rot (x : Fin 6144 → EReal) (g : Fin 48) (j : Fin 128) : EReal := (∑ k : Fin 128, x (col g k) * sg k j) * cst

/-- The rotation, with the factor inside the matrix. -/
theorem rot_eq (x : Fin 6144 → EReal) (g : Fin 48) (j : Fin 128) :
    rot x g j = ∑ k : Fin 128, x (col g k) * (sg k j * cst) := by
  obtain ⟨r, hr, hc⟩ := cst_real
  unfold rot
  rw [hc]
  have h : ∀ s : Finset (Fin 128), (∑ k ∈ s, x (col g k) * sg k j) * (r : EReal) = ∑ k ∈ s, x (col g k) * (sg k j * (r : EReal)) := by
    intro s
    induction s using Finset.induction_on with
    | empty => simp
    | insert a s ha ih =>
      rw [Finset.sum_insert ha, Finset.sum_insert ha, EReal.right_distrib_of_nonneg_of_ne_top (by exact_mod_cast hr) (EReal.coe_ne_top r), ih, mul_assoc]
  exact h _

/-- The largest absolute value of a rotated group. -/
def amax (x : Fin 6144 → EReal) (g : Fin 48) : EReal :=
  Finset.univ.fold max (Ideal.ofBits .f32 0xFF800000#32) fun j : Fin 128 => max (rot x g j) (-(rot x g j))

/-- A group's scale. -/
def scl (x : Fin 6144 → EReal) (g : Fin 48) : EReal :=
  if amax x g = 0 then 1 else Ideal.div (amax x g) (Ideal.ofBits .f32 0x40E00000#32)

/-- A number rounded to an integer from -7 to 7. -/
def clip7 (x : EReal) : EReal :=
  min (Ideal.ofBits .f32 0x40E00000#32) (max (Ideal.ofBits .f32 0xC0E00000#32) (Ideal.liftRound Ideal.roundHalfEven x))

/-- A rotated element divided by its group's scale and rounded. -/
def qv (x : Fin 6144 → EReal) (g : Fin 48) (j : Fin 128) : EReal := clip7 (Ideal.div (rot x g j) (scl x g))

/-- The code of an element. -/
def code (x : Fin 6144 → EReal) (g : Fin 48) (j : Fin 128) : BitVec 8 := Ideal.fptosi 8 (qv x g j)

/-- The element a code and a scale stand for. -/
def dq (x : Fin 6144 → EReal) (g : Fin 48) (j : Fin 128) : EReal := qv x g j * scl x g

theorem ofBits_seven : Ideal.ofBits .f32 0x40E00000#32 = (((7 : ℤ) : ℝ) : EReal) := by
  simp [Ideal.ofBits, Ideal.ieee, -EReal.coe_mul, -EReal.coe_neg]; norm_num

theorem ofBits_neg_seven : Ideal.ofBits .f32 0xC0E00000#32 = (((-7 : ℤ) : ℝ) : EReal) := by
  simp [Ideal.ofBits, Ideal.ieee, -EReal.coe_mul, -EReal.coe_neg]; norm_num

theorem clip7_int (x : EReal) : ∃ z : ℤ, -7 ≤ z ∧ z ≤ 7 ∧ clip7 x = ((z : ℝ) : EReal) := by
  unfold clip7
  rw [ofBits_seven, ofBits_neg_seven]
  induction x with
  | bot => exact ⟨-7, by simp, by simp, by rw [Ideal.liftRound_bot, max_bot_right, min_eq_right (EReal.coe_le_coe_iff.mpr (by norm_num))]⟩
  | top => exact ⟨7, by simp, by simp, by simp⟩
  | coe r =>
    refine ⟨min 7 (max (-7) (Ideal.roundHalfEven r)), by simp, by simp, ?_⟩
    rw [Ideal.liftRound_coe, Int.cast_min, Int.cast_max, EReal.coe_strictMono.monotone.map_min, EReal.coe_strictMono.monotone.map_max]

theorem fptosi_int (w : ℕ) (z : ℤ) (h1 : -(2 ^ (w - 1) : ℕ) ≤ z) (h2 : z ≤ (2 ^ (w - 1) : ℕ) - 1) :
    Ideal.fptosi w ((z : ℝ) : EReal) = BitVec.ofInt w z := by
  unfold Ideal.fptosi
  rw [Ideal.toIntClamped_coe]
  have h3 : (if 0 ≤ (z : ℝ) then ⌊(z : ℝ)⌋ else ⌈(z : ℝ)⌉) = z := by split <;> simp
  rw [h3, min_eq_right h2, max_eq_right h1]

/-- Narrowing an integer already in range changes nothing. -/
theorem clip7_trunc (x : EReal) : (Ideal.fptosi 32 (clip7 x)).setWidth 8 = Ideal.fptosi 8 (clip7 x) := by
  obtain ⟨z, h1, h2, h⟩ := clip7_int x
  rw [h, fptosi_int 32 z (by norm_num; omega) (by norm_num; omega), fptosi_int 8 z (by norm_num; omega) (by norm_num; omega)]
  interval_cases z <;> rfl

/-- A code read back is the integer it came from. -/
theorem clip7_back (x : EReal) : ((((Ideal.fptosi 8 (clip7 x)).signExtend 32).toInt : ℝ) : EReal) = clip7 x := by
  obtain ⟨z, h1, h2, h⟩ := clip7_int x
  rw [h, fptosi_int 8 z (by norm_num; omega) (by norm_num; omega)]
  have : ((BitVec.ofInt 8 z).signExtend 32).toInt = z := by interval_cases z <;> rfl
  rw [this]

/-- The signed half of a packed byte: the low one for an even row, the high one for an odd row. -/
def nib (b : BitVec 8) (odd : ℕ) : ℤ := (BitVec.ofNat 4 (b.toNat / 16 ^ odd)).toInt

/-- The weight of row `k`: its half of the packed byte times its group's scale. -/
def wt (b : Fin 3072 → BitVec 8) (s : Fin 48 → EReal) (k : Fin 6144) : EReal :=
  ((nib (b ⟨k.val / 2, by have := k.isLt; omega⟩) (k.val % 2) : ℝ) : EReal) * s ⟨k.val / 128, by have := k.isLt; omega⟩

/-- The element a row multiplies a column of weights to. -/
def dot (a : Fin 6144 → EReal) (b : Fin 3072 → BitVec 8) (s : Fin 48 → EReal) : EReal := ∑ k : Fin 6144, a k * wt b s k

/-- A sum over the rows is the sum over the even ones plus the sum over the odd ones. -/
theorem sum_even_odd (f : Fin 6144 → EReal) :
    ∑ k, f k = (∑ i : Fin 3072, f ⟨2 * i.val, by have := i.isLt; omega⟩) + ∑ i : Fin 3072, f ⟨1 + 2 * i.val, by have := i.isLt; omega⟩ := by
  have key : ∀ (n : ℕ) (f : Fin (n * 2) → EReal), ∑ k, f k = (∑ i : Fin n, f ⟨2 * i.val, by have := i.isLt; omega⟩) + ∑ i : Fin n, f ⟨1 + 2 * i.val, by have := i.isLt; omega⟩ := by
    intro n f
    rw [← Fintype.sum_equiv (finProdFinEquiv : Fin n × Fin 2 ≃ Fin (n * 2)) (fun p => f (finProdFinEquiv p)) f fun _ => rfl,
      Fintype.sum_prod_type]
    simp only [Fin.sum_univ_two]
    rw [Finset.sum_add_distrib]
    congr 1
    refine Finset.sum_congr rfl fun i _ => congrArg f (Fin.ext ?_)
    simp [finProdFinEquiv]
  exact key 3072 f

/-- A group of a row as columns of the row. -/
def flat {α : Sort*} (f : Fin 48 → Fin 128 → α) (k : Fin 6144) : α :=
  f ⟨k.val / 128, by have := k.isLt; omega⟩ ⟨k.val % 128, Nat.mod_lt _ (by norm_num)⟩

end Cert.Spec

end
-- ==== Proof.Value.PrepValue.lean ====
/- What the first call leaves in its four outputs, at one step: each stored element is a function of its row. -/
module
public import proofs.«01_k».proof.Proof.Value.PrepPieces
public import proofs.«01_k».proof.Proof.Value.Spec
@[expose] public section
set_option maxRecDepth 16384
noncomputable section
namespace Cert.KernelIdeal.Value
open Cert.KernelIdeal Cert.KernelIdeal.Gen Cert.KernelIdeal.Run Cert.Spec
open Idealize.ShloMosaic Idealize.ShloMosaic.TcCoe Idealize.ShloMosaic.Tactic

/-- The printed floor quotient by 128 of a number below 256 is the quotient. -/
theorem quot_eq (r : Fin 256) : Scalar.select
          (IntOp.andi
            (IntOp.cmpi CmpIPredicate.ne
              (IntOp.subi (BitVec.setWidth 32 (IntOp.cmpi CmpIPredicate.sgt (BitVec.ofNat 32 ↑r) 0#32))
                (BitVec.setWidth 32 (IntOp.cmpi CmpIPredicate.slt (BitVec.ofNat 32 ↑r) 0#32)))
              (Scalar.subi (Scalar.extui (Scalar.cmpi CmpIPredicate.sgt 128#32 0#32) : BitVec 32)
                (Scalar.extui (Scalar.cmpi CmpIPredicate.slt 128#32 0#32))))
            (IntOp.cmpi CmpIPredicate.ne (IntOp.remsi ArithUnit.vector (BitVec.ofNat 32 ↑r) 128#32) 0#32))
          (IntOp.subi (IntOp.divsi ArithUnit.vector (BitVec.ofNat 32 ↑r) 128#32) 1#32)
          (IntOp.divsi ArithUnit.vector (BitVec.ofNat 32 ↑r) 128#32) = BitVec.ofNat 32 (r.val / 128) := by
  revert r; decide +kernel

/-- The printed parity sign of a word, from its lowest seven bits. -/
def signW (w : BitVec 32) : BitVec 32 :=
  IntOp.subi (1#32) (IntOp.muli (2#32) (IntOp.andi (IntOp.xori (IntOp.xori (IntOp.xori w (IntOp.shrsi ArithUnit.vector w 4#32))
    (IntOp.shrsi ArithUnit.vector (IntOp.xori w (IntOp.shrsi ArithUnit.vector w 4#32)) 2#32))
    (IntOp.shrsi ArithUnit.vector (IntOp.xori (IntOp.xori w (IntOp.shrsi ArithUnit.vector w 4#32))
      (IntOp.shrsi ArithUnit.vector (IntOp.xori w (IntOp.shrsi ArithUnit.vector w 4#32)) 2#32)) 1#32)) 1#32))

theorem signW_eq (w : Fin 128) : (signW (BitVec.ofNat 32 w.val)).toInt = if par 7 w.val then -1 else 1 := by
  revert w; decide +kernel

theorem and_eq (r n : Fin 256) : IntOp.andi (IntOp.andi (BitVec.ofNat 32 r.val) (BitVec.ofNat 32 n.val)) 127#32
    = BitVec.ofNat 32 ((r.val % 128) &&& (n.val % 128)) := by
  show (BitVec.ofNat 32 r.val &&& BitVec.ofNat 32 n.val) &&& 127#32 = _
  apply BitVec.eq_of_toNat_eq
  have h1 : r.val % 128 &&& n.val % 128 ≤ r.val % 128 := Nat.and_le_left
  have hr := r.isLt; have hn := n.isLt
  simp only [BitVec.toNat_and, BitVec.toNat_ofNat]
  rw [Nat.mod_eq_of_lt (by omega : r.val < 2 ^ 32), Nat.mod_eq_of_lt (by omega : n.val < 2 ^ 32), Nat.mod_eq_of_lt (by omega : r.val % 128 &&& n.val % 128 < 2 ^ 32)]
  have e1 := Nat.and_two_pow_sub_one_eq_mod (r.val &&& n.val) 7
  have e2 := Nat.and_mod_two_pow (a := r.val) (b := n.val) (n := 7)
  exact e1.trans e2

/-- The rotation matrix of a pair of groups: the sign matrix on the two blocks of the diagonal, zero off them. -/
theorem hPair_apply (r n : Fin 256) : hPair (F := Ideal) (ix2 r n) =
    if r.val / 128 = n.val / 128 then sg ⟨r.val % 128, Nat.mod_lt _ (by norm_num)⟩ ⟨n.val % 128, Nat.mod_lt _ (by norm_num)⟩ else 0 := by
  pointwise [hPair, k0_pay4, k0_pay2, k0_pay3]
  rw [quot_eq, quot_eq, and_eq]
  have hs : (FloatOps.sitofp FTy.f32 (signW (BitVec.ofNat 32 ((r.val % 128) &&& (n.val % 128)))) : Ideal .f32)
      = sg ⟨r.val % 128, Nat.mod_lt _ (by norm_num)⟩ ⟨n.val % 128, Nat.mod_lt _ (by norm_num)⟩ := by
    have h1 : r.val % 128 &&& n.val % 128 ≤ r.val % 128 := Nat.and_le_left
    have h2 := signW_eq ⟨(r.val % 128) &&& (n.val % 128), by omega⟩
    show (((signW (BitVec.ofNat 32 ((r.val % 128) &&& (n.val % 128)))).toInt : ℝ) : EReal) = _
    rw [h2]; unfold sg sgnOf
    cases par 7 (r.val % 128 &&& n.val % 128) <;> simp
  have hr := r.isLt; have hn := n.isLt
  by_cases h : r.val / 128 = n.val / 128
  · rw [if_pos h, h, ← hs]
    have : IntOp.cmpi CmpIPredicate.eq (BitVec.ofNat 32 (n.val / 128)) (BitVec.ofNat 32 (n.val / 128)) = 1#1 := by simp [IntOp.cmpi]
    rw [this]; rfl
  · rw [if_neg h]
    have : IntOp.cmpi CmpIPredicate.eq (BitVec.ofNat 32 (r.val / 128)) (BitVec.ofNat 32 (n.val / 128)) = 0#1 := by
      have hne : BitVec.ofNat 32 (r.val / 128) ≠ BitVec.ofNat 32 (n.val / 128) := by
        intro he; apply h
        have := congrArg BitVec.toNat he
        simp only [BitVec.toNat_ofNat] at this
        omega
      simp [IntOp.cmpi, beq_eq_false_iff_ne.mpr hne]
    rw [this]; rfl

/-- Row `r` of a row block. -/
abbrev rowB (x : Vec Ideal S256x6144 .bf16) (r : Fin 256) : Fin 6144 → EReal := fun k => x (ix2 r k)

/-- Of the 256 columns of a pair, the sign matrix of a group reads its own 128. -/
theorem sum_pair (y : Fin 6144 → EReal) (p : ℕ) (hp : p < 24) (n : Fin 256) :
    (∑ k : Fin 256, y ⟨256 * p + k.val, by have := k.isLt; omega⟩ *
      (if k.val / 128 = n.val / 128 then sg ⟨k.val % 128, Nat.mod_lt _ (by norm_num)⟩ ⟨n.val % 128, Nat.mod_lt _ (by norm_num)⟩ else 0))
    = ∑ k : Fin 128, y (col ⟨2 * p + n.val / 128, by have := n.isLt; omega⟩ k) * sg k ⟨n.val % 128, Nat.mod_lt _ (by norm_num)⟩ := by
  have hn := n.isLt
  refine (Fin.sum_univ_add (a := 128) (b := 128) (fun k : Fin 256 => y ⟨256 * p + k.val, by have := k.isLt; omega⟩ *
      (if k.val / 128 = n.val / 128 then sg ⟨k.val % 128, Nat.mod_lt _ (by norm_num)⟩ ⟨n.val % 128, Nat.mod_lt _ (by norm_num)⟩ else 0))).trans ?_
  by_cases h : n.val < 128
  · refine (congrArg₂ (· + ·) ?_ (Finset.sum_eq_zero fun i _ => ?_)).trans (add_zero _)
    · refine Finset.sum_congr rfl fun k _ => ?_
      have hk := k.isLt
      refine congrArg₂ (· * ·) (congrArg y (Fin.ext ?_)) ?_
      · show 256 * p + k.val = 128 * (2 * p + n.val / 128) + k.val; omega
      · show (if k.val / 128 = n.val / 128 then sg ⟨k.val % 128, _⟩ ⟨n.val % 128, _⟩ else 0) = _
        rw [if_pos (by omega)]
        exact congrArg (fun a => sg a _) (Fin.ext (Nat.mod_eq_of_lt hk))
    · have hi := i.isLt
      show _ * (if (128 + i.val) / 128 = n.val / 128 then sg ⟨(128 + i.val) % 128, _⟩ ⟨n.val % 128, _⟩ else 0) = 0
      rw [if_neg (by omega), mul_zero]
  · refine (congrArg₂ (· + ·) (Finset.sum_eq_zero fun i _ => ?_) ?_).trans (zero_add _)
    rotate_left
    · refine Finset.sum_congr rfl fun k _ => ?_
      have hk := k.isLt
      refine congrArg₂ (· * ·) (congrArg y (Fin.ext ?_)) ?_
      · show 256 * p + (128 + k.val) = 128 * (2 * p + n.val / 128) + k.val; omega
      · show (if (128 + k.val) / 128 = n.val / 128 then sg ⟨(128 + k.val) % 128, _⟩ ⟨n.val % 128, _⟩ else 0) = _
        rw [if_pos (by omega)]
        exact congrArg (fun a => sg a _) (Fin.ext (show (128 + k.val) % 128 = k.val by omega))
    · have hi := i.isLt
      show _ * (if i.val / 128 = n.val / 128 then sg ⟨i.val % 128, _⟩ ⟨n.val % 128, _⟩ else 0) = 0
      rw [if_neg (by omega), mul_zero]

theorem pay7_raw (v h : Vec Ideal S256x256 .bf16) (r n : Fin 256) :
    k0_pay7 v h (ix2 r n) = (∑ k : Fin 256, v (ix2 r k) * h (ix2 k n)) * cst := by
  pointwise [k0_pay7]; rfl

theorem pay6_raw (v h : Vec Ideal S256x256 .bf16) (r n : Fin 256) :
    k0_pay6 v h (ix2 r n) = (∑ k : Fin 256, v (ix2 r k) * h (ix2 k n)) * cst := by
  pointwise [k0_pay6]; rfl

/-- The rotated pair, from its columns and the rotation matrix. -/
theorem sum_hPair (v : Vec Ideal S256x256 .bf16) (y : Fin 6144 → EReal) (p : ℕ) (hp : p < 24) (r n : Fin 256)
    (hv : ∀ k : Fin 256, v (ix2 r k) = y ⟨256 * p + k.val, by have := k.isLt; omega⟩) :
    (∑ k : Fin 256, v (ix2 r k) * hPair (F := Ideal) (ix2 k n)) * cst
      = rot y ⟨2 * p + n.val / 128, by have := n.isLt; omega⟩ ⟨n.val % 128, Nat.mod_lt _ (by norm_num)⟩ := by
  unfold rot
  rw [← sum_pair y p hp n]
  refine congrArg (· * cst) (Finset.sum_congr rfl fun k _ => ?_)
  rw [hv, hPair_apply]

/-- A group's scale, from its rotated elements. -/
theorem scl_of (x : Fin 6144 → EReal) (g : Fin 48) (f : Fin 128 → EReal) (hf : ∀ j, f j = rot x g j) :
    (if (Finset.univ.fold max (Ideal.ofBits .f32 0xFF800000#32) fun j : Fin 128 => max (f j) (-(f j))) = 0 then (1 : EReal)
      else Ideal.div (Finset.univ.fold max (Ideal.ofBits .f32 0xFF800000#32) fun j : Fin 128 => max (f j) (-(f j))) (Ideal.ofBits .f32 0x40E00000#32))
      = scl x g := by
  obtain rfl : f = rot x g := funext hf
  rfl

theorem pay8_raw (v h : Vec Ideal S256x256 .bf16) (r : Fin 256) (n : Fin 128) :
    k0_pay8 v h (ix2 r n) = k0_pay7 v h (ix2 r ⟨n.val, by have := n.isLt; omega⟩) := by
  pointwise [k0_pay8]

theorem pay15_raw (w : FVec Ideal S256x256 .f32) (r : Fin 256) (n : Fin 128) :
    k0_pay15 w (ix2 r n) = w (ix2 r ⟨128 + n.val, by have := n.isLt; omega⟩) := by
  pointwise [k0_pay15]

theorem pay9_raw (v h : Vec Ideal S256x256 .bf16) (x : Fin 6144 → EReal) (g : Fin 48) (r : Fin 256)
    (hf : ∀ j : Fin 128, k0_pay7 v h (ix2 r ⟨j.val, by have := j.isLt; omega⟩) = rot x g j) (n : Fin 1) :
    k0_pay9 v h (ix2 r n) = scl x g := by
  rw [← scl_of x g _ hf]
  pointwise [k0_pay9, k0_pay8]; rfl

theorem pay16_raw (w : FVec Ideal S256x256 .f32) (x : Fin 6144 → EReal) (g : Fin 48) (r : Fin 256)
    (hf : ∀ j : Fin 128, w (ix2 r ⟨128 + j.val, by have := j.isLt; omega⟩) = rot x g j) (n : Fin 1) :
    k0_pay16 w (ix2 r n) = scl x g := by
  rw [← scl_of x g _ hf]
  pointwise [k0_pay16, k0_pay15]; rfl

theorem pay12_raw (v h : Vec Ideal S256x256 .bf16) (r : Fin 256) (n : Fin 128) :
    k0_pay12 (c7 (F := Ideal)) (k0_pay10 v h) (ix2 r n) = Ideal.fptosi 8 (clip7 (Ideal.div (k0_pay8 v h (ix2 r n)) (k0_pay9 v h (ix2 r 0)))) := by
  pointwise [k0_pay12, k0_pay10, k0_pay11]; rfl

theorem pay13_raw (s : FVec Ideal S256x1 .f32) (v h : Vec Ideal S256x256 .bf16) (r : Fin 256) (n : Fin 128) :
    k0_pay13 s (c7 (F := Ideal)) (k0_pay10 v h) (ix2 r n) = clip7 (Ideal.div (k0_pay8 v h (ix2 r n)) (k0_pay9 v h (ix2 r 0))) * s (ix2 r 0) := by
  pointwise [k0_pay13, k0_pay10, k0_pay11]; rfl

theorem pay17_raw (w : FVec Ideal S256x256 .f32) (r : Fin 256) (n : Fin 128) :
    k0_pay17 w (ix2 r n) = clip7 (Ideal.div (k0_pay15 w (ix2 r n)) (k0_pay16 w (ix2 r 0))) := by
  pointwise [k0_pay17]; rfl

theorem pay18_raw (w : FVec Ideal S256x256 .f32) (r : Fin 256) (n : Fin 128) :
    k0_pay18 w (ix2 r n) = Ideal.fptosi 8 (k0_pay17 w (ix2 r n)) := by
  pointwise [k0_pay18]; rfl

theorem pay19_raw (w : FVec Ideal S256x256 .f32) (r : Fin 256) (n : Fin 128) :
    k0_pay19 w (ix2 r n) = k0_pay17 w (ix2 r n) * k0_pay16 w (ix2 r 0) := by
  pointwise [k0_pay19]

theorem putScale_raw (g : BitVec 32) (s : FVec Ideal S256x1 .f32) (acc : FVec Ideal S256x48 .f32) (r : Fin 256) (n : Fin 48) :
    putScale g s acc (ix2 r n) = Scalar.select (IntOp.cmpi .eq (BitVec.ofNat 32 n.val) g) (s (ix2 r 0)) (acc (ix2 r n)) := by
  pointwise [putScale]

theorem pay5_raw (r : Fin 256) (n : Fin 48) : k0_pay5 (F := Ideal) (ix2 r n) = Ideal.ofBits .f32 0#32 := by
  pointwise [k0_pay5]

section
variable (a : Memref sig .tc .vmem S256x6144 .bf16) (ha : a.IsWhole) (x : Vec Ideal S256x6144 .bf16)

theorem ldW_apply (p : ℕ) (hp : p < 24) (r k : Fin 256) :
    ldW a ha x p hp (ix2 r k) = rowB x r ⟨256 * p + k.val, by have := k.isLt; omega⟩ := by
  show View.readAt (Elt Ideal) a.view _ (ha.unread x) _ = _
  refine (congrFun (ha.read_unread x) _).trans (congrArg x ?_)
  refine (eq_ix2 _).trans ?_
  refine congrArg₂ ix2 (Fin.ext ?_) (Fin.ext ?_)
  · show 0 + 1 * r.val = r.val; omega
  · show 256 * p + 1 * k.val = 256 * p + k.val; omega

/-- Element `n` of the rotated pair `p`. -/
theorem pay7_apply (p : ℕ) (hp : p < 24) (r n : Fin 256) :
    k0_pay7 (ldW a ha x p hp) (hPair (F := Ideal)) (ix2 r n) = rot (rowB x r) ⟨2 * p + n.val / 128, by have := n.isLt; omega⟩ ⟨n.val % 128, Nat.mod_lt _ (by norm_num)⟩ :=
  (pay7_raw _ _ r n).trans (sum_hPair _ (rowB x r) p hp r n (ldW_apply a ha x p hp r))

theorem pay6_apply (p : ℕ) (hp : p < 24) (r n : Fin 256) :
    k0_pay6 (ldW a ha x p hp) (hPair (F := Ideal)) (ix2 r n) = rot (rowB x r) ⟨2 * p + n.val / 128, by have := n.isLt; omega⟩ ⟨n.val % 128, Nat.mod_lt _ (by norm_num)⟩ :=
  (pay6_raw _ _ r n).trans (sum_hPair _ (rowB x r) p hp r n (ldW_apply a ha x p hp r))

theorem rotE (p : ℕ) (hp : p < 24) (r : Fin 256) (j : Fin 128) :
    k0_pay7 (ldW a ha x p hp) (hPair (F := Ideal)) (ix2 r ⟨j.val, by have := j.isLt; omega⟩) = rot (rowB x r) ⟨2 * p, by omega⟩ j := by
  rw [pay7_apply]
  have hj := j.isLt
  exact congrArg₂ (rot (rowB x r)) (Fin.ext (show 2 * p + j.val / 128 = 2 * p by omega)) (Fin.ext (show j.val % 128 = j.val by omega))

theorem rotO (p : ℕ) (hp : p < 24) (r : Fin 256) (j : Fin 128) :
    k0_pay7 (ldW a ha x p hp) (hPair (F := Ideal)) (ix2 r ⟨128 + j.val, by have := j.isLt; omega⟩) = rot (rowB x r) ⟨2 * p + 1, by omega⟩ j := by
  rw [pay7_apply]
  have hj := j.isLt
  exact congrArg₂ (rot (rowB x r)) (Fin.ext (show 2 * p + (128 + j.val) / 128 = 2 * p + 1 by omega)) (Fin.ext (show (128 + j.val) % 128 = j.val by omega))

theorem scaleE (p : ℕ) (hp : p < 24) (r : Fin 256) (n : Fin 1) :
    k0_pay9 (ldW a ha x p hp) (hPair (F := Ideal)) (ix2 r n) = scl (rowB x r) ⟨2 * p, by omega⟩ := pay9_raw _ _ _ _ r (rotE a ha x p hp r) n

theorem scaleO (p : ℕ) (hp : p < 24) (r : Fin 256) (n : Fin 1) :
    k0_pay16 (k0_pay7 (ldW a ha x p hp) (hPair (F := Ideal))) (ix2 r n) = scl (rowB x r) ⟨2 * p + 1, by omega⟩ := pay16_raw _ _ _ r (rotO a ha x p hp r) n

theorem codeE (p : ℕ) (hp : p < 24) (r : Fin 256) (n : Fin 128) :
    k0_pay12 (c7 (F := Ideal)) (k0_pay10 (ldW a ha x p hp) (hPair (F := Ideal))) (ix2 r n) = code (rowB x r) ⟨2 * p, by omega⟩ n := by
  rw [pay12_raw, pay8_raw, rotE, scaleE]; rfl

theorem dqE (p : ℕ) (hp : p < 24) (r : Fin 256) (n : Fin 128) :
    k0_pay13 (k0_pay9 (ldW a ha x p hp) (hPair (F := Ideal))) (c7 (F := Ideal)) (k0_pay10 (ldW a ha x p hp) (hPair (F := Ideal))) (ix2 r n) = dq (rowB x r) ⟨2 * p, by omega⟩ n := by
  rw [pay13_raw, pay8_raw, rotE, scaleE]; rfl

theorem codeO (p : ℕ) (hp : p < 24) (r : Fin 256) (n : Fin 128) :
    k0_pay18 (k0_pay7 (ldW a ha x p hp) (hPair (F := Ideal))) (ix2 r n) = code (rowB x r) ⟨2 * p + 1, by omega⟩ n := by
  rw [pay18_raw, pay17_raw, pay15_raw, rotO, scaleO]; rfl

theorem dqO (p : ℕ) (hp : p < 24) (r : Fin 256) (n : Fin 128) :
    k0_pay19 (k0_pay7 (ldW a ha x p hp) (hPair (F := Ideal))) (ix2 r n) = dq (rowB x r) ⟨2 * p + 1, by omega⟩ n := by
  rw [pay19_raw, pay17_raw, pay15_raw, rotO, scaleO]; rfl

/-- The rotated row block. -/
def gV : Vec Ideal S256x6144 .bf16 := fun y => flat (rot (rowB x (y 0))) (y 1)
/-- The dequantised row block. -/
def gD : Vec Ideal S256x6144 .bf16 := fun y => flat (dq (rowB x (y 0))) (y 1)
/-- The codes of the row block. -/
def gQ : Vec Ideal S256x6144 .i8 := fun y => flat (code (rowB x (y 0))) (y 1)
/-- The scales of the row block. -/
def gS : Vec Ideal S256x48 .f32 := fun y => scl (rowB x (y 0)) (y 1)

theorem flat_eq {α : Sort*} (f : Fin 48 → Fin 128 → α) (k : Fin 6144) (g : Fin 48) (j : Fin 128) (h : k.val = 128 * g.val + j.val) : f g j = flat f k := by
  have hj := j.isLt
  exact congrArg₂ f (Fin.ext (show g.val = k.val / 128 by omega)) (Fin.ext (show j.val = k.val % 128 by omega))

theorem pcsXv_apply : (n : ℕ) → (hn : n ≤ 24) → ∀ p ∈ pcsXv a ha x (hPair (F := Ideal)) n hn, ∀ j : p.1.shape.Idx, p.2 j = gV x (p.1.emb j)
  | 0, _ => by intro p hp; simp [pcsXv] at hp
  | n + 1, hn => by
    intro p hp
    rcases List.mem_cons.mp hp with rfl | hp
    · intro j
      obtain ⟨r, k, rfl⟩ : ∃ r k : Fin 256, j = ix2 r k := ⟨j 0, j 1, eq_ix2 j⟩
      refine (pay6_apply a ha x n hn r k).trans ?_
      have e0 : ((Rect.unit (s := S256x6144) ![0, 256 * n] ![256, 256] (inbW n hn)).emb (ix2 r k)) 0 = r := Fin.ext (show 0 + 1 * r.val = r.val by omega)
      show _ = flat (rot (rowB x (((Rect.unit (s := S256x6144) ![0, 256 * n] ![256, 256] (inbW n hn)).emb (ix2 r k)) 0))) _
      rw [e0]
      refine flat_eq _ _ _ _ ?_
      show 256 * n + 1 * k.val = 128 * (2 * n + k.val / 128) + k.val % 128
      omega
    · exact pcsXv_apply n _ p hp

theorem pcsXd_apply : (n : ℕ) → (hn : n ≤ 24) → ∀ p ∈ pcsXd a ha x (hPair (F := Ideal)) n hn, ∀ j : p.1.shape.Idx, p.2 j = gD x (p.1.emb j)
  | 0, _ => by intro p hp; simp [pcsXd] at hp
  | n + 1, hn => by
    intro p hp
    rcases List.mem_cons.mp hp with rfl | hp
    · intro j
      obtain ⟨r, k, rfl⟩ : ∃ (r : Fin 256) (k : Fin 128), j = ix2 r k := ⟨j 0, j 1, eq_ix2 j⟩
      refine (dqO a ha x n hn r k).trans ?_
      have e0 : ((Rect.unit (s := S256x6144) ![0, 256 * n + 128] ![256, 128] (inbO n hn)).emb (ix2 r k)) 0 = r := Fin.ext (show 0 + 1 * r.val = r.val by omega)
      show _ = flat (dq (rowB x (((Rect.unit (s := S256x6144) ![0, 256 * n + 128] ![256, 128] (inbO n hn)).emb (ix2 r k)) 0))) _
      rw [e0]
      refine flat_eq _ _ _ _ ?_
      show 256 * n + 128 + 1 * k.val = 128 * (2 * n + 1) + k.val
      omega
    rcases List.mem_cons.mp hp with rfl | hp
    · intro j
      obtain ⟨r, k, rfl⟩ : ∃ (r : Fin 256) (k : Fin 128), j = ix2 r k := ⟨j 0, j 1, eq_ix2 j⟩
      refine (dqE a ha x n hn r k).trans ?_
      have e0 : ((Rect.unit (s := S256x6144) ![0, 256 * n] ![256, 128] (inbE n hn)).emb (ix2 r k)) 0 = r := Fin.ext (show 0 + 1 * r.val = r.val by omega)
      show _ = flat (dq (rowB x (((Rect.unit (s := S256x6144) ![0, 256 * n] ![256, 128] (inbE n hn)).emb (ix2 r k)) 0))) _
      rw [e0]
      refine flat_eq _ _ _ _ ?_
      show 256 * n + 1 * k.val = 128 * (2 * n) + k.val
      omega
    · exact pcsXd_apply n _ p hp

theorem pcsQ_apply : (n : ℕ) → (hn : n ≤ 24) → ∀ p ∈ pcsQ a ha x (hPair (F := Ideal)) n hn, ∀ j : p.1.shape.Idx, p.2 j = gQ x (p.1.emb j)
  | 0, _ => by intro p hp; simp [pcsQ] at hp
  | n + 1, hn => by
    intro p hp
    rcases List.mem_cons.mp hp with rfl | hp
    · intro j
      obtain ⟨r, k, rfl⟩ : ∃ (r : Fin 256) (k : Fin 128), j = ix2 r k := ⟨j 0, j 1, eq_ix2 j⟩
      refine (codeO a ha x n hn r k).trans ?_
      have e0 : ((Rect.unit (s := S256x6144) ![0, 256 * n + 128] ![256, 128] (inbO n hn)).emb (ix2 r k)) 0 = r := Fin.ext (show 0 + 1 * r.val = r.val by omega)
      show _ = flat (code (rowB x (((Rect.unit (s := S256x6144) ![0, 256 * n + 128] ![256, 128] (inbO n hn)).emb (ix2 r k)) 0))) _
      rw [e0]
      refine flat_eq _ _ _ _ ?_
      show 256 * n + 128 + 1 * k.val = 128 * (2 * n + 1) + k.val
      omega
    rcases List.mem_cons.mp hp with rfl | hp
    · intro j
      obtain ⟨r, k, rfl⟩ : ∃ (r : Fin 256) (k : Fin 128), j = ix2 r k := ⟨j 0, j 1, eq_ix2 j⟩
      refine (codeE a ha x n hn r k).trans ?_
      have e0 : ((Rect.unit (s := S256x6144) ![0, 256 * n] ![256, 128] (inbE n hn)).emb (ix2 r k)) 0 = r := Fin.ext (show 0 + 1 * r.val = r.val by omega)
      show _ = flat (code (rowB x (((Rect.unit (s := S256x6144) ![0, 256 * n] ![256, 128] (inbE n hn)).emb (ix2 r k)) 0))) _
      rw [e0]
      refine flat_eq _ _ _ _ ?_
      show 256 * n + 1 * k.val = 128 * (2 * n) + k.val
      omega
    · exact pcsQ_apply n _ p hp

theorem lane_eq (l g : Fin 48) : IntOp.cmpi .eq (BitVec.ofNat 32 l.val) (BitVec.ofNat 32 g.val) = if l = g then 1#1 else 0#1 := by
  revert l g; decide +kernel

theorem putScale_apply (g : Fin 48) (s : FVec Ideal S256x1 .f32) (acc : FVec Ideal S256x48 .f32) (r : Fin 256) (l : Fin 48) :
    putScale (BitVec.ofNat 32 g.val) s acc (ix2 r l) = if l = g then s (ix2 r 0) else acc (ix2 r l) := by
  rw [putScale_raw, lane_eq]
  by_cases h : l = g
  · rw [if_pos h, if_pos h]; rfl
  · rw [if_neg h, if_neg h]; rfl

/-- After `n` pairs the first `2 n` lanes hold the scales of their groups. -/
theorem scalesUpTo_apply : (n : ℕ) → (hn : n ≤ 24) → ∀ (r : Fin 256) (l : Fin 48), l.val < 2 * n →
    scalesUpTo a ha x (hPair (F := Ideal)) n hn (ix2 r l) = scl (rowB x r) l
  | 0, _, r, l, h => absurd h (by omega)
  | n + 1, hn, r, l, h => by
    refine (putScale_apply ⟨2 * n + 1, by omega⟩ _ _ r l).trans ?_
    by_cases h1 : l = ⟨2 * n + 1, by omega⟩
    · rw [if_pos h1, scaleO, h1]
    · rw [if_neg h1]
      refine (putScale_apply ⟨2 * n, by omega⟩ _ _ r l).trans ?_
      by_cases h2 : l = ⟨2 * n, by omega⟩
      · rw [if_pos h2, scaleE, h2]
      · rw [if_neg h2]
        refine scalesUpTo_apply n _ r l ?_
        have h1' : l.val ≠ 2 * n + 1 := fun e => h1 (Fin.ext e)
        have h2' : l.val ≠ 2 * n := fun e => h2 (Fin.ext e)
        omega
end

section
variable (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole)
  (x0 : Vec Ideal S256x6144 .bf16) (x1 : Vec Ideal S256x6144 .bf16) (xs0 : Vec Ideal S256x256 .bf16)

theorem ldH_eq : ldH arg7 harg7 xs0 = xs0 := by
  funext y
  obtain ⟨r, k, rfl⟩ : ∃ r k : Fin 256, y = ix2 r k := ⟨y 0, y 1, eq_ix2 y⟩
  show View.readAt (Elt Ideal) arg7.view _ (harg7.unread xs0) _ = _
  refine (congrFun (harg7.read_unread xs0) _).trans (congrArg xs0 ?_)
  refine (eq_ix2 _).trans ?_
  refine congrArg₂ ix2 (Fin.ext ?_) (Fin.ext ?_)
  · show 0 + 1 * r.val = r.val; omega
  · show 0 + 1 * k.val = k.val; omega

theorem off00 : (![0, 0] : Fin 2 → ℕ) = fun _ => 0 := by
  funext a; fin_cases a <;> rfl

theorem ldHA_eq : ldHA (F := Ideal) arg7 = hPair (F := Ideal) := View.readCov_unit_zero _ off00 _ _

theorem scales_full (r : Fin 256) (l : Fin 48) : scalesUpTo arg1 harg1 x0 (hPair (F := Ideal)) 24 (Nat.le_refl 24) (ix2 r l) = scl (rowB x0 r) l :=
  scalesUpTo_apply arg1 harg1 x0 24 (Nat.le_refl 24) r l (by have := l.isLt; omega)

/-- The store of the scales leaves the scales. -/
theorem pcS_apply (w : FVec Ideal S256x48 .f32) (hw : ∀ (r : Fin 256) (l : Fin 48), w (ix2 r l) = scl (rowB x0 r) l) :
    ∀ p ∈ ([⟨Rect.unit ![0, 0] ![256, 48] inb_S256x48_S256x48_0_0, w⟩] : List (View.Piece (Elt Ideal) S256x48 .f32)),
    ∀ j : p.1.shape.Idx, p.2 j = gS x0 (p.1.emb j) := by
  intro p hp
  obtain rfl := List.mem_singleton.mp hp
  intro j
  obtain ⟨r, n, rfl⟩ : ∃ (r : Fin 256) (n : Fin 48), j = ix2 r n := ⟨j 0, j 1, eq_ix2 j⟩
  refine (hw r n).trans ?_
  have e : ((Rect.unit (s := S256x48) ![0, 0] ![256, 48] inb_S256x48_S256x48_0_0).emb (ix2 r n)) = ix2 r n := by
    refine (eq_ix2 _).trans ?_
    refine congrArg₂ ix2 (Fin.ext ?_) (Fin.ext ?_)
    · show 0 + 1 * r.val = r.val; omega
    · show 0 + 1 * n.val = n.val; omega
  have k : gS x0 (ix2 r n) = scl (rowB x0 r) n := rfl
  rw [← k]
  exact congrArg (gS x0) e.symm

theorem outA_2 (hc0 : cond0_0 i) :
    out0_A_2 c i arg1 harg1 arg2 harg2 arg3 harg3 arg4 harg4 arg5 harg5 arg6 harg6 arg7 harg7 hc0 x0 x1 = gD x0 := by
  funext y
  have hc := cover0_A_2 c i arg1 harg1 arg2 harg2 arg3 harg3 arg4 harg4 arg5 harg5 arg6 harg6 arg7 harg7 hc0 x0 x1 y
  unfold out0_A_2
  rw [listA_xd, ldHA_eq] at hc ⊢
  exact View.read_writes_apply_of_pieces _ _ _ _ (pcsXd_apply arg1 harg1 x0 24 (Nat.le_refl 24)) y hc

theorem outA_3 (hc0 : cond0_0 i) :
    out0_A_3 c i arg1 harg1 arg2 harg2 arg3 harg3 arg4 harg4 arg5 harg5 arg6 harg6 arg7 harg7 hc0 x0 x1 = gV x1 := by
  funext y
  have hc := cover0_A_3 c i arg1 harg1 arg2 harg2 arg3 harg3 arg4 harg4 arg5 harg5 arg6 harg6 arg7 harg7 hc0 x0 x1 y
  unfold out0_A_3
  rw [listA_xv, ldHA_eq] at hc ⊢
  exact View.read_writes_apply_of_pieces _ _ _ _ (pcsXv_apply arg2 harg2 x1 24 (Nat.le_refl 24)) y hc

theorem outA_4 (hc0 : cond0_0 i) :
    out0_A_4 c i arg1 harg1 arg2 harg2 arg3 harg3 arg4 harg4 arg5 harg5 arg6 harg6 arg7 harg7 hc0 x0 x1 = gQ x0 := by
  funext y
  have hc := cover0_A_4 c i arg1 harg1 arg2 harg2 arg3 harg3 arg4 harg4 arg5 harg5 arg6 harg6 arg7 harg7 hc0 x0 x1 y
  unfold out0_A_4
  rw [listA_q, ldHA_eq] at hc ⊢
  exact View.read_writes_apply_of_pieces _ _ _ _ (pcsQ_apply arg1 harg1 x0 24 (Nat.le_refl 24)) y hc

theorem outA_5 (hc0 : cond0_0 i) :
    out0_A_5 c i arg1 harg1 arg2 harg2 arg3 harg3 arg4 harg4 arg5 harg5 arg6 harg6 arg7 harg7 hc0 x0 x1 = gS x0 := by
  funext y
  have hc := cover0_A_5 c i arg1 harg1 arg2 harg2 arg3 harg3 arg4 harg4 arg5 harg5 arg6 harg6 arg7 harg7 hc0 x0 x1 y
  unfold out0_A_5
  rw [listA_s, ldHA_eq] at hc ⊢
  exact View.read_writes_apply_of_pieces _ _ _ _ (pcS_apply x0 _ (scales_full arg1 harg1 x0)) y hc

theorem outB_2 (hc0 : ¬cond0_0 i) :
    out0_B_2 c i arg1 harg1 arg2 harg2 arg3 harg3 arg4 harg4 arg5 harg5 arg6 harg6 arg7 harg7 hc0 x0 x1 (hPair (F := Ideal)) = gD x0 := by
  funext y
  have hc := cover0_B_2 c i arg1 harg1 arg2 harg2 arg3 harg3 arg4 harg4 arg5 harg5 arg6 harg6 arg7 harg7 hc0 x0 x1 (hPair (F := Ideal)) y
  unfold out0_B_2
  rw [listB_xd, ldH_eq] at hc ⊢
  exact View.read_writes_apply_of_pieces _ _ _ _ (pcsXd_apply arg1 harg1 x0 24 (Nat.le_refl 24)) y hc

theorem outB_3 (hc0 : ¬cond0_0 i) :
    out0_B_3 c i arg1 harg1 arg2 harg2 arg3 harg3 arg4 harg4 arg5 harg5 arg6 harg6 arg7 harg7 hc0 x0 x1 (hPair (F := Ideal)) = gV x1 := by
  funext y
  have hc := cover0_B_3 c i arg1 harg1 arg2 harg2 arg3 harg3 arg4 harg4 arg5 harg5 arg6 harg6 arg7 harg7 hc0 x0 x1 (hPair (F := Ideal)) y
  unfold out0_B_3
  rw [listB_xv, ldH_eq] at hc ⊢
  exact View.read_writes_apply_of_pieces _ _ _ _ (pcsXv_apply arg2 harg2 x1 24 (Nat.le_refl 24)) y hc

theorem outB_4 (hc0 : ¬cond0_0 i) :
    out0_B_4 c i arg1 harg1 arg2 harg2 arg3 harg3 arg4 harg4 arg5 harg5 arg6 harg6 arg7 harg7 hc0 x0 x1 (hPair (F := Ideal)) = gQ x0 := by
  funext y
  have hc := cover0_B_4 c i arg1 harg1 arg2 harg2 arg3 harg3 arg4 harg4 arg5 harg5 arg6 harg6 arg7 harg7 hc0 x0 x1 (hPair (F := Ideal)) y
  unfold out0_B_4
  rw [listB_q, ldH_eq] at hc ⊢
  exact View.read_writes_apply_of_pieces _ _ _ _ (pcsQ_apply arg1 harg1 x0 24 (Nat.le_refl 24)) y hc

theorem outB_5 (hc0 : ¬cond0_0 i) :
    out0_B_5 c i arg1 harg1 arg2 harg2 arg3 harg3 arg4 harg4 arg5 harg5 arg6 harg6 arg7 harg7 hc0 x0 x1 (hPair (F := Ideal)) = gS x0 := by
  funext y
  have hc := cover0_B_5 c i arg1 harg1 arg2 harg2 arg3 harg3 arg4 harg4 arg5 harg5 arg6 harg6 arg7 harg7 hc0 x0 x1 (hPair (F := Ideal)) y
  unfold out0_B_5
  rw [listB_s, ldH_eq] at hc ⊢
  exact View.read_writes_apply_of_pieces _ _ _ _ (pcS_apply x0 _ (scales_full arg1 harg1 x0)) y hc

theorem soutA (hc0 : cond0_0 i) : sout0_A_0 c i arg1 harg1 arg2 harg2 arg3 harg3 arg4 harg4 arg5 harg5 arg6 harg6 arg7 harg7 hc0 x0 x1 = hPair (F := Ideal) := by
  unfold sout0_A_0
  rw [listA_h]
  funext y
  refine View.read_writes_apply_of_pieces (Val := Elt Ideal) VS0_0 VS0_0.junk (hPair (F := Ideal)) _ ?_ y ⟨_, List.mem_singleton.mpr rfl, ?_⟩
  · intro p hp
    obtain rfl := List.mem_singleton.mp hp
    intro j
    obtain ⟨r, n, rfl⟩ : ∃ (r n : Fin 256), j = ix2 r n := ⟨j 0, j 1, eq_ix2 j⟩
    refine congrArg (hPair (F := Ideal)) ?_
    refine Eq.symm ((eq_ix2 _).trans ?_)
    refine congrArg₂ ix2 (Fin.ext ?_) (Fin.ext ?_)
    · show 0 + 1 * r.val = r.val; omega
    · show 0 + 1 * n.val = n.val; omega
  · show y ∈ (Rect.unit (s := S256x256) ![0, 0] ![256, 256] inb_S256x256_S256x256_0_0).set
    rw [Rect.mem_set_unit]
    intro a
    have h0 : (y 0).val < 256 := (y 0).isLt
    have h1 : (y 1).val < 256 := (y 1).isLt
    fin_cases a
    · show 0 ≤ (y 0).val ∧ (y 0).val < 0 + 256; omega
    · show 0 ≤ (y 1).val ∧ (y 1).val < 0 + 256; omega
end

section
variable (V : (c : Dev nD) → (b : Ref sig .tc) → Buf (Elt Ideal) ((c : Thread nD τ).loc b))

/-- The scratch holds the rotation matrix after every point. -/
theorem scratch_eq (c : Dev nD) : (n : ℕ) → (hn : n < cfg0.N) → (outsAt0 V c n hn).2.2.2.2 = hPair (F := Ideal)
  | 0, hn => by
    refine (congrArg (fun o => o.2.2.2.2) (outsAt0_A V c ⟨0, hn⟩ rfl)).trans ?_
    dsimp only
    apply soutA
  | n + 1, hn => by
    by_cases h0 : (n + 1) % 12 = 0
    · refine (congrArg (fun o => o.2.2.2.2) (outsAt0_A V c ⟨n + 1, hn⟩ h0)).trans ?_
      dsimp only
      apply soutA
    · refine (congrArg (fun o => o.2.2.2.2) (outsAt0_B V c ⟨n + 1, hn⟩ h0)).trans ?_
      dsimp only
      exact scratch_eq c n _

/-- What every point leaves in its blocks. -/
theorem outs_eq (c : Dev nD) (t : Fin cfg0.N) :
    (outsAt0 V c t.val t.isLt).1 = gD (iblk0 V c 0 t) ∧ (outsAt0 V c t.val t.isLt).2.1 = gV (iblk0 V c 1 t)
      ∧ (outsAt0 V c t.val t.isLt).2.2.1 = gQ (iblk0 V c 0 t) ∧ (outsAt0 V c t.val t.isLt).2.2.2.1 = gS (iblk0 V c 0 t) := by
  by_cases h0 : t.val % 12 = 0
  · rw [outsAt0_A V c t h0]
    dsimp only
    refine ⟨?_, ?_, ?_, ?_⟩
    · apply outA_2
    · apply outA_3
    · apply outA_4
    · apply outA_5
  · rw [outsAt0_B V c t h0, scratch_eq]
    dsimp only
    refine ⟨?_, ?_, ?_, ?_⟩
    · apply outB_2
    · apply outB_3
    · apply outB_4
    · apply outB_5
end

end Cert.KernelIdeal.Value
end
-- ==== Proof.Value.MatmulPieces.lean ====
/- What the body of the two matrix products stores: the dequantised weights, said once for every group, and the product. -/
module

public import proofs.«01_k».proof.Proof.KernelIdealRun.Matmul1
public import proofs.«01_k».proof.Proof.KernelIdealRun.Matmul2

@[expose] public section

set_option maxRecDepth 16384

noncomputable section

namespace Cert.KernelIdeal.Value

open Cert.KernelIdeal Cert.KernelIdeal.Gen Cert.KernelIdeal.Run
open Idealize.ShloMosaic Idealize.ShloMosaic.TcCoe Idealize.ShloMosaic.Tactic

variable {F : FTy → Type} [FloatOps F]

theorem inbG (g : ℕ) (h : g < 48) : ∀ a, (![64 * g, 0] : Fin 2 → ℕ) a + (![64, 512] : Fin 2 → ℕ) a ≤ S3072x512.size a := by
  intro a; fin_cases a
  · show 64 * g + 64 ≤ 3072; omega
  · exact Nat.le_refl 512

theorem inbS (g : ℕ) (h : g < 48) : ∀ a, (![g, 0] : Fin 2 → ℕ) a + (![1, 512] : Fin 2 → ℕ) a ≤ S48x512.size a := by
  intro a; fin_cases a
  · show g + 1 ≤ 48; omega
  · exact Nat.le_refl 512

theorem inbD (g : ℕ) (h : g < 48) : ∀ a, (![128 * g, 0] : Fin 2 → ℕ) a + (![128, 512] : Fin 2 → ℕ) a ≤ S6144x512.size a := by
  intro a; fin_cases a
  · show 128 * g + 128 ≤ 6144; omega
  · exact Nat.le_refl 512

/-- The packed rows of group `g`. -/
abbrev ldG (a : Memref sig .tc .vmem S3072x512 .i8) (ha : a.IsWhole) (x : Vec F S3072x512 .i8) (g : ℕ) (h : g < 48) : Vec F S64x512 .i8 :=
  (View.readAt (Elt F) a.view (Rect.unit (s := S3072x512) (![64 * g, 0] : Fin 2 → ℕ) (![64, 512] : Fin 2 → ℕ) (inbG g h)).toLoadRect (ha.unread x) :)

/-- The scales of group `g`. -/
abbrev ldS (a : Memref sig .tc .vmem S48x512 .f32) (ha : a.IsWhole) (x : Vec F S48x512 .f32) (g : ℕ) (h : g < 48) : Vec F S1x512 .f32 :=
  (View.readAt (Elt F) a.view (Rect.unit (s := S48x512) (![g, 0] : Fin 2 → ℕ) (![1, 512] : Fin 2 → ℕ) (inbS g h)).toLoadRect (ha.unread x) :)

section
variable (arg2 : Memref sig .tc .vmem S1024x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S1024x512 .bf16) (harg5 : arg5.IsWhole) (arg6 : Memref sig .tc .vmem S6144x512 .bf16) (harg6 : arg6.IsWhole)
  (x0 : Vec F S1024x6144 .bf16) (x1 : Vec F S3072x512 .i8) (x2 : Vec F S48x512 .f32)

/-- The stores of the dequantised weights, groups `n - 1` to `0`. -/
def pcsW : (n : ℕ) → n ≤ 48 → List (View.Piece (Elt F) S6144x512 .bf16)
  | 0, _ => []
  | n + 1, hn => ⟨Rect.unit ![128 * n, 0] ![128, 512] (inbD n hn), k1_pay1 (ldG arg3 harg3 x1 n hn) (ldS arg4 harg4 x2 n hn)⟩ :: pcsW n (Nat.le_of_succ_le hn)

/-- The rows the body multiplies, as it loads them. -/
abbrev ldX : Vec F S1024x6144 .bf16 :=
  (View.readAt (Elt F) arg2.view (Rect.unit (s := S1024x6144) (![0, 0] : Fin 2 → ℕ) (![1024, 6144] : Fin 2 → ℕ) inb_S1024x6144_S1024x6144_0_0).toLoadRect (harg2.unread x0) :)

/-- The dequantised weights, as the body loads them. -/
abbrev ldWt : Vec F S6144x512 .bf16 :=
  (View.readCov (Val := Elt F) arg6.view (pcsW arg3 harg3 arg4 harg4 x1 x2 48 (Nat.le_refl 48)) (Rect.unit (s := S6144x512) (![0, 0] : Fin 2 → ℕ) (![6144, 512] : Fin 2 → ℕ) inb_S6144x512_S6144x512_0_0).toLoadRect :)

variable (c : Dev nD)

theorem list1 (i : grid1.Coords) :
    (kernelRun1_A c i arg2 harg2 arg3 harg3 arg4 harg4 arg5 harg5 arg6 harg6 x0 x1 x2).1
      = [⟨Rect.unit ![0, 0] ![1024, 512] inb_S1024x512_S1024x512_0_0, k1_pay86 (ldX arg2 harg2 x0) (ldWt arg3 harg3 arg4 harg4 arg6 x1 x2)⟩] := by sl_kernel_rfl

theorem list2 (i : grid2.Coords) :
    (kernelRun2_A c i arg2 harg2 arg3 harg3 arg4 harg4 arg5 harg5 arg6 harg6 x0 x1 x2).1
      = [⟨Rect.unit ![0, 0] ![1024, 512] inb_S1024x512_S1024x512_0_0, k1_pay86 (ldX arg2 harg2 x0) (ldWt arg3 harg3 arg4 harg4 arg6 x1 x2)⟩] := by sl_kernel_rfl

end

end Cert.KernelIdeal.Value

end
-- ==== Proof.Value.MatmulValue.lean ====
/- What each matrix product leaves in its output, at one step: the product of a row with the dequantised weights. -/
module
public import proofs.«01_k».proof.Proof.Value.MatmulPieces
public import proofs.«01_k».proof.Proof.Value.Spec
@[expose] public section
set_option maxRecDepth 16384
noncomputable section
namespace Cert.KernelIdeal.Value
open Cert.KernelIdeal Cert.KernelIdeal.Gen Cert.KernelIdeal.Run Cert.Spec
open Idealize.ShloMosaic Idealize.ShloMosaic.TcCoe Idealize.ShloMosaic.Tactic

theorem pay86_raw (x : Vec Ideal S1024x6144 .bf16) (w : Vec Ideal S6144x512 .bf16) (r : Fin 1024) (n : Fin 512) :
    k1_pay86 x w (ix2 r n) = ∑ k : Fin 6144, x (ix2 r k) * w (ix2 k n) := by
  pointwise [k1_pay86]

/-- Shifting a byte up so that its low or high half is the top of the word, and back, leaves that half. -/
theorem nibble (b : Fin 256) (o : Fin 2) :
    BitVec.setWidth 4 (IntOp.shrsi ArithUnit.vector (IntOp.shli ArithUnit.vector (BitVec.setWidth 32 (BitVec.ofFin (w := 8) b))
      (IntOp.subi (28#32) (IntOp.muli (4#32) (BitVec.ofNat 32 o.val)))) 28#32) = BitVec.ofNat 4 (b.val / 16 ^ o.val) := by
  revert b o; decide +kernel

theorem odd_eq (k : Fin 128) : IntOp.andi (BitVec.ofNat 32 k.val) 1#32 = BitVec.ofNat 32 (k.val % 2) := by
  revert k; decide +kernel

theorem pay1_raw (v : Vec Ideal S64x512 .i8) (s : Vec Ideal S1x512 .f32) (k : Fin 128) (n : Fin 512) :
    k1_pay1 v s (ix2 k n) = ((nib (v (ix2 ⟨k.val / 2, by have := k.isLt; omega⟩ n)) (k.val % 2) : ℝ) : EReal) * s (ix2 0 n) := by
  pointwise [k1_pay1]
  rw [odd_eq]
  have h := nibble (v (ix2 ⟨k.val / 2, by have := k.isLt; omega⟩ n)).toFin ⟨k.val % 2, Nat.mod_lt _ (by norm_num)⟩
  refine congrArg (· * s (ix2 0 n)) ?_
  refine (congrArg (fun b : BitVec 4 => ((b.toInt : ℝ) : EReal)) h).trans ?_
  rfl

section
variable (arg2 : Memref sig .tc .vmem S1024x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S1024x512 .bf16) (harg5 : arg5.IsWhole) (arg6 : Memref sig .tc .vmem S6144x512 .bf16) (harg6 : arg6.IsWhole)
  (x0 : Vec Ideal S1024x6144 .bf16) (x1 : Vec Ideal S3072x512 .i8) (x2 : Vec Ideal S48x512 .f32)

theorem ldG_apply (g : ℕ) (h : g < 48) (k : Fin 64) (n : Fin 512) :
    ldG arg3 harg3 x1 g h (ix2 k n) = x1 (ix2 ⟨64 * g + k.val, by have := k.isLt; omega⟩ n) := by
  show View.readAt (Elt Ideal) arg3.view _ (harg3.unread x1) _ = _
  refine (congrFun (harg3.read_unread x1) _).trans (congrArg x1 ?_)
  refine (eq_ix2 _).trans ?_
  refine congrArg₂ ix2 (Fin.ext ?_) (Fin.ext ?_)
  · show 64 * g + 1 * k.val = 64 * g + k.val; omega
  · show 0 + 1 * n.val = n.val; omega

theorem ldS_apply (g : ℕ) (h : g < 48) (n : Fin 512) :
    ldS arg4 harg4 x2 g h (ix2 0 n) = x2 (ix2 ⟨g, h⟩ n) := by
  show View.readAt (Elt Ideal) arg4.view _ (harg4.unread x2) _ = _
  refine (congrFun (harg4.read_unread x2) _).trans (congrArg x2 ?_)
  refine (eq_ix2 _).trans ?_
  refine congrArg₂ ix2 (Fin.ext ?_) (Fin.ext ?_)
  · show g + 1 * 0 = g; omega
  · show 0 + 1 * n.val = n.val; omega

/-- The dequantised weights of a block of columns. -/
def gW : Vec Ideal S6144x512 .bf16 := fun y => wt (fun i => x1 (ix2 i (y 1))) (fun g => x2 (ix2 g (y 1))) (y 0)

theorem pcsW_apply : (n : ℕ) → (hn : n ≤ 48) → ∀ p ∈ pcsW arg3 harg3 arg4 harg4 x1 x2 n hn, ∀ j : p.1.shape.Idx, p.2 j = gW x1 x2 (p.1.emb j)
  | 0, _ => by intro p hp; simp [pcsW] at hp
  | g + 1, hn => by
    intro p hp
    rcases List.mem_cons.mp hp with rfl | hp
    · intro j
      obtain ⟨k, n, rfl⟩ : ∃ (k : Fin 128) (n : Fin 512), j = ix2 k n := ⟨j 0, j 1, eq_ix2 j⟩
      have hk := k.isLt
      refine (pay1_raw _ _ k n).trans ?_
      rw [ldG_apply, ldS_apply]
      have e : ((Rect.unit (s := S6144x512) ![128 * g, 0] ![128, 512] (inbD g hn)).emb (ix2 k n)) = ix2 ⟨128 * g + k.val, by omega⟩ n := by
        refine (eq_ix2 _).trans ?_
        refine congrArg₂ ix2 (Fin.ext ?_) (Fin.ext ?_)
        · show 128 * g + 1 * k.val = 128 * g + k.val; omega
        · show 0 + 1 * n.val = n.val; omega
      refine Eq.trans ?_ (congrArg (gW x1 x2) e.symm)
      show _ = wt (fun i => x1 (ix2 i n)) (fun g => x2 (ix2 g n)) ⟨128 * g + k.val, by omega⟩
      unfold wt
      have e1 : (128 * g + k.val) / 2 = 64 * g + k.val / 2 := by omega
      have e2 : (128 * g + k.val) % 2 = k.val % 2 := by omega
      have e3 : (128 * g + k.val) / 128 = g := by omega
      simp only [e1, e2, e3]
    · exact pcsW_apply g _ p hp

theorem pcsW_cover : (n : ℕ) → (hn : n ≤ 48) → ∀ y : S6144x512.Idx, (y 0).val < 128 * n → ∃ p ∈ pcsW arg3 harg3 arg4 harg4 x1 x2 n hn, y ∈ p.1.set
  | 0, _, y, h => absurd h (by omega)
  | g + 1, hn, y, h => by
    by_cases hg : (y 0).val < 128 * g
    · obtain ⟨p, hp, hy⟩ := pcsW_cover g (Nat.le_of_succ_le hn) y hg
      exact ⟨p, List.mem_cons_of_mem _ hp, hy⟩
    · refine ⟨_, List.mem_cons_self, ?_⟩
      show y ∈ (Rect.unit (s := S6144x512) ![128 * g, 0] ![128, 512] (inbD g hn)).set
      rw [Rect.mem_set_unit]
      intro a
      have h1 : (y 1).val < 512 := (y 1).isLt
      fin_cases a
      · show 128 * g ≤ (y 0).val ∧ (y 0).val < 128 * g + 128; omega
      · show 0 ≤ (y 1).val ∧ (y 1).val < 0 + 512; omega

theorem ldWt_apply (k : Fin 6144) (n : Fin 512) :
    ldWt arg3 harg3 arg4 harg4 arg6 x1 x2 (ix2 k n) = wt (fun i => x1 (ix2 i n)) (fun g => x2 (ix2 g n)) k := by
  have hk := k.isLt
  have e : (Rect.unit (s := S6144x512) (![0, 0] : Fin 2 → ℕ) (![6144, 512] : Fin 2 → ℕ) inb_S6144x512_S6144x512_0_0).toLoadRect.idx (ix2 k n) = ix2 k n := by
    refine (eq_ix2 _).trans ?_
    refine congrArg₂ ix2 (Fin.ext ?_) (Fin.ext ?_)
    · show 0 + 1 * k.val = k.val; omega
    · show 0 + 1 * n.val = n.val; omega
  show arg6.view.read (Elt Ideal) (arg6.view.writes (Elt Ideal) arg6.view.junk _) ((Rect.unit (s := S6144x512) (![0, 0] : Fin 2 → ℕ) (![6144, 512] : Fin 2 → ℕ) inb_S6144x512_S6144x512_0_0).toLoadRect.idx (ix2 k n)) = gW x1 x2 (ix2 k n)
  rw [e]
  exact View.read_writes_apply_of_pieces _ _ (gW x1 x2) _ (pcsW_apply arg3 harg3 arg4 harg4 x1 x2 48 (Nat.le_refl 48)) _
    (pcsW_cover arg3 harg3 arg4 harg4 x1 x2 48 (Nat.le_refl 48) _ (show k.val < 128 * 48 by omega))

theorem ldX_apply (r : Fin 1024) (k : Fin 6144) : ldX arg2 harg2 x0 (ix2 r k) = x0 (ix2 r k) := by
  show View.readAt (Elt Ideal) arg2.view _ (harg2.unread x0) _ = _
  refine (congrFun (harg2.read_unread x0) _).trans (congrArg x0 ?_)
  refine (eq_ix2 _).trans ?_
  refine congrArg₂ ix2 (Fin.ext ?_) (Fin.ext ?_)
  · show 0 + 1 * r.val = r.val; omega
  · show 0 + 1 * k.val = k.val; omega

/-- The product block. -/
def gM : Vec Ideal S1024x512 .bf16 := fun y => dot (fun k => x0 (ix2 (y 0) k)) (fun i => x1 (ix2 i (y 1))) (fun g => x2 (ix2 g (y 1)))

theorem pcM_apply : ∀ p ∈ ([⟨Rect.unit ![0, 0] ![1024, 512] inb_S1024x512_S1024x512_0_0, k1_pay86 (ldX arg2 harg2 x0) (ldWt arg3 harg3 arg4 harg4 arg6 x1 x2)⟩] : List (View.Piece (Elt Ideal) S1024x512 .bf16)),
    ∀ j : p.1.shape.Idx, p.2 j = gM x0 x1 x2 (p.1.emb j) := by
  intro p hp
  obtain rfl := List.mem_singleton.mp hp
  intro j
  obtain ⟨r, n, rfl⟩ : ∃ (r : Fin 1024) (n : Fin 512), j = ix2 r n := ⟨j 0, j 1, eq_ix2 j⟩
  refine (pay86_raw _ _ r n).trans ?_
  have e : ((Rect.unit (s := S1024x512) ![0, 0] ![1024, 512] inb_S1024x512_S1024x512_0_0).emb (ix2 r n)) = ix2 r n := by
    refine (eq_ix2 _).trans ?_
    refine congrArg₂ ix2 (Fin.ext ?_) (Fin.ext ?_)
    · show 0 + 1 * r.val = r.val; omega
    · show 0 + 1 * n.val = n.val; omega
  refine Eq.trans ?_ (congrArg (gM x0 x1 x2) e.symm)
  simp only [ldX_apply, ldWt_apply]
  rfl

variable (c : Dev nD)

theorem out1_eq (i : grid1.Coords) : out1_A_3 c i arg2 harg2 arg3 harg3 arg4 harg4 arg5 harg5 arg6 harg6 x0 x1 x2 = gM x0 x1 x2 := by
  funext y
  have hc := cover1_A_3 c i arg2 harg2 arg3 harg3 arg4 harg4 arg5 harg5 arg6 harg6 x0 x1 x2 y
  unfold out1_A_3
  rw [list1] at hc ⊢
  exact View.read_writes_apply_of_pieces _ _ _ _ (pcM_apply arg2 harg2 arg3 harg3 arg4 harg4 arg6 x0 x1 x2) y hc

theorem out2_eq (i : grid2.Coords) : out2_A_3 c i arg2 harg2 arg3 harg3 arg4 harg4 arg5 harg5 arg6 harg6 x0 x1 x2 = gM x0 x1 x2 := by
  funext y
  have hc := cover2_A_3 c i arg2 harg2 arg3 harg3 arg4 harg4 arg5 harg5 arg6 harg6 x0 x1 x2 y
  unfold out2_A_3
  rw [list2] at hc ⊢
  exact View.read_writes_apply_of_pieces _ _ _ _ (pcM_apply arg2 harg2 arg3 harg3 arg4 harg4 arg6 x0 x1 x2) y hc
end

end Cert.KernelIdeal.Value
end
-- ==== Proof.Value.Arrays.lean ====
/- The arrays the three calls leave: each is one function of the arrays the call reads. -/
module

public import proofs.«01_k».proof.Proof.Value.PrepValue
public import proofs.«01_k».proof.Proof.Value.MatmulValue

@[expose] public section

set_option maxRecDepth 16384

noncomputable section

namespace Cert.KernelIdeal.Value

open Cert.KernelIdeal Cert.KernelIdeal.Gen Cert.KernelIdeal.Run Cert.Spec
open Idealize.ShloMosaic Idealize.ShloMosaic.TcCoe Idealize.ShloMosaic.Tactic

/-- Row `R` of an array of rows. -/
abbrev rowA (A : Vec Ideal S3072x6144 .bf16) (R : Fin 3072) : Fin 6144 → EReal := fun k => A (ix2 R k)

/-- The dequantised array. -/
def aD (A : Vec Ideal S3072x6144 .bf16) : Vec Ideal S3072x6144 .bf16 := fun i => flat (dq (rowA A (i 0))) (i 1)
/-- The rotated array. -/
def aV (A : Vec Ideal S3072x6144 .bf16) : Vec Ideal S3072x6144 .bf16 := fun i => flat (rot (rowA A (i 0))) (i 1)
/-- The array of codes. -/
def aQ (A : Vec Ideal S3072x6144 .bf16) : Vec Ideal S3072x6144 .i8 := fun i => flat (code (rowA A (i 0))) (i 1)
/-- The array of scales. -/
def aS (A : Vec Ideal S3072x6144 .bf16) : Vec Ideal S3072x48 .f32 := fun i => scl (rowA A (i 0)) (i 1)
/-- The product array. -/
def aM (A : Vec Ideal S3072x6144 .bf16) (Q : Vec Ideal S3072x16384 .i8) (S : Vec Ideal S48x16384 .f32) : Vec Ideal S3072x16384 .bf16 :=
  fun i => dot (rowA A (i 0)) (fun k => Q (ix2 k (i 1))) (fun g => S (ix2 g (i 1)))

section
variable (V : (c : Dev nD) → (b : Ref sig .tc) → Buf (Elt Ideal) ((c : Thread nD τ).loc b)) (c : Dev nD)

theorem lt0 (t : Fin cfg0.N) : t.val < 12 := lt_of_lt_of_eq t.isLt N_0

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = t.val ∧ win0_3.index t (1 : Fin 2) = 0 :=
  (by decide +kernel : ∀ t : Fin grid0.N, _)
theorem idx0_4 : ∀ t : Fin cfg0.N, win0_4.index t (0 : Fin 2) = t.val ∧ win0_4.index t (1 : Fin 2) = 0 :=
  (by decide +kernel : ∀ t : Fin grid0.N, _)
theorem idx0_5 : ∀ t : Fin cfg0.N, win0_5.index t (0 : Fin 2) = t.val ∧ win0_5.index t (1 : Fin 2) = 0 :=
  (by decide +kernel : ∀ t : Fin grid0.N, _)

theorem iblk0_0 (t : Fin cfg0.N) (r : Fin 256) (k : Fin 6144) :
    (iblk0 V c 0 t : Vec Ideal S256x6144 .bf16) (ix2 r k) = (V c main_v0 : Vec Ideal S3072x6144 .bf16) (ix2 ⟨256 * t.val + r.val, by have := lt0 t; have := r.isLt; omega⟩ k) := by
  show (V c main_v0 : Vec Ideal S3072x6144 .bf16) (((cfg0.win 0).blk t).view.emb (ix2 r k)) = _
  refine congrArg (V c main_v0 : Vec Ideal S3072x6144 .bf16) ((eq_ix2 _).trans ?_)
  obtain ⟨e0, e1⟩ := idx0_0 t
  refine congrArg₂ ix2 (Fin.ext ?_) (Fin.ext ?_)
  · show win0_0.index t (0 : Fin 2) * 256 + 1 * r.val = 256 * t.val + r.val; rw [e0]; omega
  · show win0_0.index t (1 : Fin 2) * 6144 + 1 * k.val = k.val; rw [e1]; omega

theorem iblk0_1 (t : Fin cfg0.N) (r : Fin 256) (k : Fin 6144) :
    (iblk0 V c 1 t : Vec Ideal S256x6144 .bf16) (ix2 r k) = (V c main_v1 : Vec Ideal S3072x6144 .bf16) (ix2 ⟨256 * t.val + r.val, by have := lt0 t; have := r.isLt; omega⟩ k) := by
  show (V c main_v1 : Vec Ideal S3072x6144 .bf16) (((cfg0.win 1).blk t).view.emb (ix2 r k)) = _
  refine congrArg (V c main_v1 : Vec Ideal S3072x6144 .bf16) ((eq_ix2 _).trans ?_)
  obtain ⟨e0, e1⟩ := idx0_1 t
  refine congrArg₂ ix2 (Fin.ext ?_) (Fin.ext ?_)
  · show win0_1.index t (0 : Fin 2) * 256 + 1 * r.val = 256 * t.val + r.val; rw [e0]; omega
  · show win0_1.index t (1 : Fin 2) * 6144 + 1 * k.val = k.val; rw [e1]; omega

theorem mem0_2 (t : Fin cfg0.N) (i : S3072x6144.Idx) :
    i ∈ ((cfg0.win 2).blk t).view.set ↔ ∀ a : Fin 2, win0_2.index t a * S256x6144.size a ≤ (i a).val ∧ (i a).val < win0_2.index t a * S256x6144.size a + S256x6144.size a := by
  show i ∈ ((View.whole main_v2_0).slice (win0_2.rect t)).set ↔ _
  rw [View.set_slice_whole, Rect.mem_set_unit]
  exact Iff.rfl

theorem flushed0_2 (t : Fin cfg0.N) : (dat0 V c).flushed 2 t = ((cfg0.win 2).blk t).view.read (Elt Ideal) (aD (V c main_v0)) := by
  show (cfg0.win 2).cut (grid0.coords t) ((dat0 V c).after 2 t) = _
  rw [after0_2, (outs_eq V c t).1]
  funext y
  obtain ⟨r, k, rfl⟩ : ∃ (r : Fin 256) (k : Fin 6144), y = ix2 r k := ⟨y 0, y 1, eq_ix2 y⟩
  obtain ⟨e0, e1⟩ := idx0_2 t
  have he : ((cfg0.win 2).blk t).view.emb (ix2 r k) = (ix2 ⟨256 * t.val + r.val, by have := lt0 t; have := r.isLt; omega⟩ k : S3072x6144.Idx) := by
    refine (eq_ix2 _).trans (congrArg₂ ix2 (Fin.ext ?_) (Fin.ext ?_))
    · show win0_2.index t (0 : Fin 2) * 256 + 1 * r.val = 256 * t.val + r.val; rw [e0]; omega
    · show win0_2.index t (1 : Fin 2) * 6144 + 1 * k.val = k.val; rw [e1]; omega
  show flat (dq (rowB (iblk0 V c 0 t) r)) k = aD (V c main_v0) (((cfg0.win 2).blk t).view.emb (ix2 r k))
  have hr : rowB (iblk0 V c 0 t) r = rowA (V c main_v0) ⟨256 * t.val + r.val, by have := lt0 t; have := r.isLt; omega⟩ := funext fun j => iblk0_0 V c t r j
  rw [he, hr]; rfl

theorem final0_2 : (dat0 V c).arrAt 2 cfg0.N = aD (V c main_v0) := by
  refine (dat0 V c).arrAt_eq_of_cover 2 _ (fun t _ => flushed0_2 V c t) fun i => ?_
  have h0 : (i 0).val < 3072 := (i 0).isLt
  have h1 : (i 1).val < 6144 := (i 1).isLt
  have hN := N_0
  refine ⟨⟨(i 0).val / 256, lt_of_lt_of_eq (by omega) hN.symm⟩, (by decide +kernel : ∀ t : Fin cfg0.N, (cfg0.win 2).flush t = true) _, ?_⟩
  obtain ⟨e0, e1⟩ := idx0_2 ⟨(i 0).val / 256, lt_of_lt_of_eq (by omega) hN.symm⟩
  rw [mem0_2]
  intro a
  fin_cases a
  · show win0_2.index _ (0 : Fin 2) * 256 ≤ (i 0).val ∧ (i 0).val < win0_2.index _ (0 : Fin 2) * 256 + 256
    rw [e0]; dsimp only; omega
  · show win0_2.index _ (1 : Fin 2) * 6144 ≤ (i 1).val ∧ (i 1).val < win0_2.index _ (1 : Fin 2) * 6144 + 6144
    rw [e1]; omega

theorem mem0_3 (t : Fin cfg0.N) (i : S3072x6144.Idx) :
    i ∈ ((cfg0.win 3).blk t).view.set ↔ ∀ a : Fin 2, win0_3.index t a * S256x6144.size a ≤ (i a).val ∧ (i a).val < win0_3.index t a * S256x6144.size a + S256x6144.size a := by
  show i ∈ ((View.whole main_v2_1).slice (win0_3.rect t)).set ↔ _
  rw [View.set_slice_whole, Rect.mem_set_unit]
  exact Iff.rfl

theorem flushed0_3 (t : Fin cfg0.N) : (dat0 V c).flushed 3 t = ((cfg0.win 3).blk t).view.read (Elt Ideal) (aV (V c main_v1)) := by
  show (cfg0.win 3).cut (grid0.coords t) ((dat0 V c).after 3 t) = _
  rw [after0_3, (outs_eq V c t).2.1]
  funext y
  obtain ⟨r, k, rfl⟩ : ∃ (r : Fin 256) (k : Fin 6144), y = ix2 r k := ⟨y 0, y 1, eq_ix2 y⟩
  obtain ⟨e0, e1⟩ := idx0_3 t
  have he : ((cfg0.win 3).blk t).view.emb (ix2 r k) = (ix2 ⟨256 * t.val + r.val, by have := lt0 t; have := r.isLt; omega⟩ k : S3072x6144.Idx) := by
    refine (eq_ix2 _).trans (congrArg₂ ix2 (Fin.ext ?_) (Fin.ext ?_))
    · show win0_3.index t (0 : Fin 2) * 256 + 1 * r.val = 256 * t.val + r.val; rw [e0]; omega
    · show win0_3.index t (1 : Fin 2) * 6144 + 1 * k.val = k.val; rw [e1]; omega
  show flat (rot (rowB (iblk0 V c 1 t) r)) k = aV (V c main_v1) (((cfg0.win 3).blk t).view.emb (ix2 r k))
  have hr : rowB (iblk0 V c 1 t) r = rowA (V c main_v1) ⟨256 * t.val + r.val, by have := lt0 t; have := r.isLt; omega⟩ := funext fun j => iblk0_1 V c t r j
  rw [he, hr]; rfl

theorem final0_3 : (dat0 V c).arrAt 3 cfg0.N = aV (V c main_v1) := by
  refine (dat0 V c).arrAt_eq_of_cover 3 _ (fun t _ => flushed0_3 V c t) fun i => ?_
  have h0 : (i 0).val < 3072 := (i 0).isLt
  have h1 : (i 1).val < 6144 := (i 1).isLt
  have hN := N_0
  refine ⟨⟨(i 0).val / 256, lt_of_lt_of_eq (by omega) hN.symm⟩, (by decide +kernel : ∀ t : Fin cfg0.N, (cfg0.win 3).flush t = true) _, ?_⟩
  obtain ⟨e0, e1⟩ := idx0_3 ⟨(i 0).val / 256, lt_of_lt_of_eq (by omega) hN.symm⟩
  rw [mem0_3]
  intro a
  fin_cases a
  · show win0_3.index _ (0 : Fin 2) * 256 ≤ (i 0).val ∧ (i 0).val < win0_3.index _ (0 : Fin 2) * 256 + 256
    rw [e0]; dsimp only; omega
  · show win0_3.index _ (1 : Fin 2) * 6144 ≤ (i 1).val ∧ (i 1).val < win0_3.index _ (1 : Fin 2) * 6144 + 6144
    rw [e1]; omega

theorem mem0_4 (t : Fin cfg0.N) (i : S3072x6144.Idx) :
    i ∈ ((cfg0.win 4).blk t).view.set ↔ ∀ a : Fin 2, win0_4.index t a * S256x6144.size a ≤ (i a).val ∧ (i a).val < win0_4.index t a * S256x6144.size a + S256x6144.size a := by
  show i ∈ ((View.whole main_v2_2).slice (win0_4.rect t)).set ↔ _
  rw [View.set_slice_whole, Rect.mem_set_unit]
  exact Iff.rfl

theorem flushed0_4 (t : Fin cfg0.N) : (dat0 V c).flushed 4 t = ((cfg0.win 4).blk t).view.read (Elt Ideal) (aQ (V c main_v0)) := by
  show (cfg0.win 4).cut (grid0.coords t) ((dat0 V c).after 4 t) = _
  rw [after0_4, (outs_eq V c t).2.2.1]
  funext y
  obtain ⟨r, k, rfl⟩ : ∃ (r : Fin 256) (k : Fin 6144), y = ix2 r k := ⟨y 0, y 1, eq_ix2 y⟩
  obtain ⟨e0, e1⟩ := idx0_4 t
  have he : ((cfg0.win 4).blk t).view.emb (ix2 r k) = (ix2 ⟨256 * t.val + r.val, by have := lt0 t; have := r.isLt; omega⟩ k : S3072x6144.Idx) := by
    refine (eq_ix2 _).trans (congrArg₂ ix2 (Fin.ext ?_) (Fin.ext ?_))
    · show win0_4.index t (0 : Fin 2) * 256 + 1 * r.val = 256 * t.val + r.val; rw [e0]; omega
    · show win0_4.index t (1 : Fin 2) * 6144 + 1 * k.val = k.val; rw [e1]; omega
  show flat (code (rowB (iblk0 V c 0 t) r)) k = aQ (V c main_v0) (((cfg0.win 4).blk t).view.emb (ix2 r k))
  have hr : rowB (iblk0 V c 0 t) r = rowA (V c main_v0) ⟨256 * t.val + r.val, by have := lt0 t; have := r.isLt; omega⟩ := funext fun j => iblk0_0 V c t r j
  rw [he, hr]; rfl

theorem final0_4 : (dat0 V c).arrAt 4 cfg0.N = aQ (V c main_v0) := by
  refine (dat0 V c).arrAt_eq_of_cover 4 _ (fun t _ => flushed0_4 V c t) fun i => ?_
  have h0 : (i 0).val < 3072 := (i 0).isLt
  have h1 : (i 1).val < 6144 := (i 1).isLt
  have hN := N_0
  refine ⟨⟨(i 0).val / 256, lt_of_lt_of_eq (by omega) hN.symm⟩, (by decide +kernel : ∀ t : Fin cfg0.N, (cfg0.win 4).flush t = true) _, ?_⟩
  obtain ⟨e0, e1⟩ := idx0_4 ⟨(i 0).val / 256, lt_of_lt_of_eq (by omega) hN.symm⟩
  rw [mem0_4]
  intro a
  fin_cases a
  · show win0_4.index _ (0 : Fin 2) * 256 ≤ (i 0).val ∧ (i 0).val < win0_4.index _ (0 : Fin 2) * 256 + 256
    rw [e0]; dsimp only; omega
  · show win0_4.index _ (1 : Fin 2) * 6144 ≤ (i 1).val ∧ (i 1).val < win0_4.index _ (1 : Fin 2) * 6144 + 6144
    rw [e1]; omega

theorem mem0_5 (t : Fin cfg0.N) (i : S3072x48.Idx) :
    i ∈ ((cfg0.win 5).blk t).view.set ↔ ∀ a : Fin 2, win0_5.index t a * S256x48.size a ≤ (i a).val ∧ (i a).val < win0_5.index t a * S256x48.size a + S256x48.size a := by
  show i ∈ ((View.whole main_v2_3).slice (win0_5.rect t)).set ↔ _
  rw [View.set_slice_whole, Rect.mem_set_unit]
  exact Iff.rfl

theorem flushed0_5 (t : Fin cfg0.N) : (dat0 V c).flushed 5 t = ((cfg0.win 5).blk t).view.read (Elt Ideal) (aS (V c main_v0)) := by
  show (cfg0.win 5).cut (grid0.coords t) ((dat0 V c).after 5 t) = _
  rw [after0_5, (outs_eq V c t).2.2.2]
  funext y
  obtain ⟨r, k, rfl⟩ : ∃ (r : Fin 256) (k : Fin 48), y = ix2 r k := ⟨y 0, y 1, eq_ix2 y⟩
  obtain ⟨e0, e1⟩ := idx0_5 t
  have he : ((cfg0.win 5).blk t).view.emb (ix2 r k) = (ix2 ⟨256 * t.val + r.val, by have := lt0 t; have := r.isLt; omega⟩ k : S3072x48.Idx) := by
    refine (eq_ix2 _).trans (congrArg₂ ix2 (Fin.ext ?_) (Fin.ext ?_))
    · show win0_5.index t (0 : Fin 2) * 256 + 1 * r.val = 256 * t.val + r.val; rw [e0]; omega
    · show win0_5.index t (1 : Fin 2) * 48 + 1 * k.val = k.val; rw [e1]; omega
  show scl (rowB (iblk0 V c 0 t) r) k = aS (V c main_v0) (((cfg0.win 5).blk t).view.emb (ix2 r k))
  have hr : rowB (iblk0 V c 0 t) r = rowA (V c main_v0) ⟨256 * t.val + r.val, by have := lt0 t; have := r.isLt; omega⟩ := funext fun j => iblk0_0 V c t r j
  rw [he, hr]; rfl

theorem final0_5 : (dat0 V c).arrAt 5 cfg0.N = aS (V c main_v0) := by
  refine (dat0 V c).arrAt_eq_of_cover 5 _ (fun t _ => flushed0_5 V c t) fun i => ?_
  have h0 : (i 0).val < 3072 := (i 0).isLt
  have h1 : (i 1).val < 48 := (i 1).isLt
  have hN := N_0
  refine ⟨⟨(i 0).val / 256, lt_of_lt_of_eq (by omega) hN.symm⟩, (by decide +kernel : ∀ t : Fin cfg0.N, (cfg0.win 5).flush t = true) _, ?_⟩
  obtain ⟨e0, e1⟩ := idx0_5 ⟨(i 0).val / 256, lt_of_lt_of_eq (by omega) hN.symm⟩
  rw [mem0_5]
  intro a
  fin_cases a
  · show win0_5.index _ (0 : Fin 2) * 256 ≤ (i 0).val ∧ (i 0).val < win0_5.index _ (0 : Fin 2) * 256 + 256
    rw [e0]; dsimp only; omega
  · show win0_5.index _ (1 : Fin 2) * 48 ≤ (i 1).val ∧ (i 1).val < win0_5.index _ (1 : Fin 2) * 48 + 48
    rw [e1]; omega

theorem lt1 (t : Fin cfg1.N) : t.val < 96 := lt_of_lt_of_eq t.isLt N_1
theorem idx1_0 : ∀ t : Fin cfg1.N, win1_0.index t (0 : Fin 2) = t.val / 32 ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = t.val % 32 :=
  (by decide +kernel : ∀ t : Fin grid1.N, _)
theorem idx1_2 : ∀ t : Fin cfg1.N, win1_2.index t (0 : Fin 2) = 0 ∧ win1_2.index t (1 : Fin 2) = t.val % 32 :=
  (by decide +kernel : ∀ t : Fin grid1.N, _)
theorem idx1_3 : ∀ t : Fin cfg1.N, win1_3.index t (0 : Fin 2) = t.val / 32 ∧ win1_3.index t (1 : Fin 2) = t.val % 32 :=
  (by decide +kernel : ∀ t : Fin grid1.N, _)

theorem iblk1_0 (t : Fin cfg1.N) (r : Fin 1024) (k : Fin 6144) :
    (iblk1 V c 0 t : Vec Ideal S1024x6144 .bf16) (ix2 r k) = (V c main_v2_0 : Vec Ideal S3072x6144 .bf16) (ix2 ⟨1024 * (t.val / 32) + r.val, by have := lt1 t; have := r.isLt; omega⟩ k) := by
  show (V c main_v2_0 : Vec Ideal S3072x6144 .bf16) (((cfg1.win 0).blk t).view.emb (ix2 r k)) = _
  refine congrArg (V c main_v2_0 : Vec Ideal S3072x6144 .bf16) ((eq_ix2 _).trans ?_)
  obtain ⟨e0, e1⟩ := idx1_0 t
  refine congrArg₂ ix2 (Fin.ext ?_) (Fin.ext ?_)
  · show win1_0.index t (0 : Fin 2) * 1024 + 1 * r.val = 1024 * (t.val / 32) + r.val; rw [e0]; omega
  · show win1_0.index t (1 : Fin 2) * 6144 + 1 * k.val = k.val; rw [e1]; omega

theorem iblk1_1 (t : Fin cfg1.N) (k : Fin 3072) (n : Fin 512) :
    (iblk1 V c 1 t : Vec Ideal S3072x512 .i8) (ix2 k n) = (V c main_arg2 : Vec Ideal S3072x16384 .i8) (ix2 k ⟨512 * (t.val % 32) + n.val, by have := n.isLt; omega⟩) := by
  show (V c main_arg2 : Vec Ideal S3072x16384 .i8) (((cfg1.win 1).blk t).view.emb (ix2 k n)) = _
  refine congrArg (V c main_arg2 : Vec Ideal S3072x16384 .i8) ((eq_ix2 _).trans ?_)
  obtain ⟨e0, e1⟩ := idx1_1 t
  refine congrArg₂ ix2 (Fin.ext ?_) (Fin.ext ?_)
  · show win1_1.index t (0 : Fin 2) * 3072 + 1 * k.val = k.val; rw [e0]; omega
  · show win1_1.index t (1 : Fin 2) * 512 + 1 * n.val = 512 * (t.val % 32) + n.val; rw [e1]; omega

theorem iblk1_2 (t : Fin cfg1.N) (k : Fin 48) (n : Fin 512) :
    (iblk1 V c 2 t : Vec Ideal S48x512 .f32) (ix2 k n) = (V c main_arg3 : Vec Ideal S48x16384 .f32) (ix2 k ⟨512 * (t.val % 32) + n.val, by have := n.isLt; omega⟩) := by
  show (V c main_arg3 : Vec Ideal S48x16384 .f32) (((cfg1.win 2).blk t).view.emb (ix2 k n)) = _
  refine congrArg (V c main_arg3 : Vec Ideal S48x16384 .f32) ((eq_ix2 _).trans ?_)
  obtain ⟨e0, e1⟩ := idx1_2 t
  refine congrArg₂ ix2 (Fin.ext ?_) (Fin.ext ?_)
  · show win1_2.index t (0 : Fin 2) * 48 + 1 * k.val = k.val; rw [e0]; omega
  · show win1_2.index t (1 : Fin 2) * 512 + 1 * n.val = 512 * (t.val % 32) + n.val; rw [e1]; omega

theorem mem1_3 (t : Fin cfg1.N) (i : S3072x16384.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v3).slice (win1_3.rect t)).set ↔ _
  rw [View.set_slice_whole, Rect.mem_set_unit]
  exact Iff.rfl

theorem flushed1_3 (t : Fin cfg1.N) :
    (dat1 V c).flushed 3 t = ((cfg1.win 3).blk t).view.read (Elt Ideal) (aM (V c main_v2_0) (V c main_arg2) (V c main_arg3)) := by
  show (cfg1.win 3).cut (grid1.coords t) ((dat1 V c).after 3 t) = _
  rw [after1_3]
  unfold outsAt1
  rw [out1_eq]
  funext y
  obtain ⟨r, n, rfl⟩ : ∃ (r : Fin 1024) (n : Fin 512), y = ix2 r n := ⟨y 0, y 1, eq_ix2 y⟩
  obtain ⟨e0, e1⟩ := idx1_3 t
  have he : ((cfg1.win 3).blk t).view.emb (ix2 r n) = (ix2 ⟨1024 * (t.val / 32) + r.val, by have := lt1 t; have := r.isLt; omega⟩ ⟨512 * (t.val % 32) + n.val, by have := n.isLt; omega⟩ : S3072x16384.Idx) := by
    refine (eq_ix2 _).trans (congrArg₂ ix2 (Fin.ext ?_) (Fin.ext ?_))
    · show win1_3.index t (0 : Fin 2) * 1024 + 1 * r.val = 1024 * (t.val / 32) + r.val; rw [e0]; omega
    · show win1_3.index t (1 : Fin 2) * 512 + 1 * n.val = 512 * (t.val % 32) + n.val; rw [e1]; omega
  show dot (fun k => (iblk1 V c 0 t : Vec Ideal S1024x6144 .bf16) (ix2 r k)) (fun i => (iblk1 V c 1 t : Vec Ideal S3072x512 .i8) (ix2 i n)) (fun g => (iblk1 V c 2 t : Vec Ideal S48x512 .f32) (ix2 g n))
    = aM (V c main_v2_0) (V c main_arg2) (V c main_arg3) (((cfg1.win 3).blk t).view.emb (ix2 r n))
  rw [he, funext (iblk1_0 V c t r), funext fun i => iblk1_1 V c t i n, funext fun g => iblk1_2 V c t g n]; rfl

theorem final1_3 : (dat1 V c).arrAt 3 cfg1.N = aM (V c main_v2_0) (V c main_arg2) (V c main_arg3) := by
  refine (dat1 V c).arrAt_eq_of_cover 3 _ (fun t _ => flushed1_3 V c t) fun i => ?_
  have h0 : (i 0).val < 3072 := (i 0).isLt
  have h1 : (i 1).val < 16384 := (i 1).isLt
  have hN := N_1
  refine ⟨⟨32 * ((i 0).val / 1024) + (i 1).val / 512, lt_of_lt_of_eq (by omega) hN.symm⟩, (by decide +kernel : ∀ t : Fin cfg1.N, (cfg1.win 3).flush t = true) _, ?_⟩
  obtain ⟨e0, e1⟩ := idx1_3 ⟨32 * ((i 0).val / 1024) + (i 1).val / 512, lt_of_lt_of_eq (by omega) hN.symm⟩
  rw [mem1_3]
  intro a
  fin_cases a
  · show win1_3.index _ (0 : Fin 2) * 1024 ≤ (i 0).val ∧ (i 0).val < win1_3.index _ (0 : Fin 2) * 1024 + 1024
    rw [e0]; dsimp only; omega
  · show win1_3.index _ (1 : Fin 2) * 512 ≤ (i 1).val ∧ (i 1).val < win1_3.index _ (1 : Fin 2) * 512 + 512
    rw [e1]; dsimp only; omega

theorem lt2 (t : Fin cfg2.N) : t.val < 96 := lt_of_lt_of_eq t.isLt N_2
theorem idx2_0 : ∀ t : Fin cfg2.N, win2_0.index t (0 : Fin 2) = t.val / 32 ∧ win2_0.index t (1 : Fin 2) = 0 :=
  (by decide +kernel : ∀ t : Fin grid2.N, _)
theorem idx2_1 : ∀ t : Fin cfg2.N, win2_1.index t (0 : Fin 2) = 0 ∧ win2_1.index t (1 : Fin 2) = t.val % 32 :=
  (by decide +kernel : ∀ t : Fin grid2.N, _)
theorem idx2_2 : ∀ t : Fin cfg2.N, win2_2.index t (0 : Fin 2) = 0 ∧ win2_2.index t (1 : Fin 2) = t.val % 32 :=
  (by decide +kernel : ∀ t : Fin grid2.N, _)
theorem idx2_3 : ∀ t : Fin cfg2.N, win2_3.index t (0 : Fin 2) = t.val / 32 ∧ win2_3.index t (1 : Fin 2) = t.val % 32 :=
  (by decide +kernel : ∀ t : Fin grid2.N, _)

theorem iblk2_0 (t : Fin cfg2.N) (r : Fin 1024) (k : Fin 6144) :
    (iblk2 V c 0 t : Vec Ideal S1024x6144 .bf16) (ix2 r k) = (V c main_v2_1 : Vec Ideal S3072x6144 .bf16) (ix2 ⟨1024 * (t.val / 32) + r.val, by have := lt2 t; have := r.isLt; omega⟩ k) := by
  show (V c main_v2_1 : Vec Ideal S3072x6144 .bf16) (((cfg2.win 0).blk t).view.emb (ix2 r k)) = _
  refine congrArg (V c main_v2_1 : Vec Ideal S3072x6144 .bf16) ((eq_ix2 _).trans ?_)
  obtain ⟨e0, e1⟩ := idx2_0 t
  refine congrArg₂ ix2 (Fin.ext ?_) (Fin.ext ?_)
  · show win2_0.index t (0 : Fin 2) * 1024 + 1 * r.val = 1024 * (t.val / 32) + r.val; rw [e0]; omega
  · show win2_0.index t (1 : Fin 2) * 6144 + 1 * k.val = k.val; rw [e1]; omega

theorem iblk2_1 (t : Fin cfg2.N) (k : Fin 3072) (n : Fin 512) :
    (iblk2 V c 1 t : Vec Ideal S3072x512 .i8) (ix2 k n) = (V c main_arg2 : Vec Ideal S3072x16384 .i8) (ix2 k ⟨512 * (t.val % 32) + n.val, by have := n.isLt; omega⟩) := by
  show (V c main_arg2 : Vec Ideal S3072x16384 .i8) (((cfg2.win 1).blk t).view.emb (ix2 k n)) = _
  refine congrArg (V c main_arg2 : Vec Ideal S3072x16384 .i8) ((eq_ix2 _).trans ?_)
  obtain ⟨e0, e1⟩ := idx2_1 t
  refine congrArg₂ ix2 (Fin.ext ?_) (Fin.ext ?_)
  · show win2_1.index t (0 : Fin 2) * 3072 + 1 * k.val = k.val; rw [e0]; omega
  · show win2_1.index t (1 : Fin 2) * 512 + 1 * n.val = 512 * (t.val % 32) + n.val; rw [e1]; omega

theorem iblk2_2 (t : Fin cfg2.N) (k : Fin 48) (n : Fin 512) :
    (iblk2 V c 2 t : Vec Ideal S48x512 .f32) (ix2 k n) = (V c main_arg3 : Vec Ideal S48x16384 .f32) (ix2 k ⟨512 * (t.val % 32) + n.val, by have := n.isLt; omega⟩) := by
  show (V c main_arg3 : Vec Ideal S48x16384 .f32) (((cfg2.win 2).blk t).view.emb (ix2 k n)) = _
  refine congrArg (V c main_arg3 : Vec Ideal S48x16384 .f32) ((eq_ix2 _).trans ?_)
  obtain ⟨e0, e1⟩ := idx2_2 t
  refine congrArg₂ ix2 (Fin.ext ?_) (Fin.ext ?_)
  · show win2_2.index t (0 : Fin 2) * 48 + 1 * k.val = k.val; rw [e0]; omega
  · show win2_2.index t (1 : Fin 2) * 512 + 1 * n.val = 512 * (t.val % 32) + n.val; rw [e1]; omega

theorem mem2_3 (t : Fin cfg2.N) (i : S3072x16384.Idx) :
    i ∈ ((cfg2.win 3).blk t).view.set ↔ ∀ a : Fin 2, win2_3.index t a * S1024x512.size a ≤ (i a).val ∧ (i a).val < win2_3.index t a * S1024x512.size a + S1024x512.size a := by
  show i ∈ ((View.whole main_v4).slice (win2_3.rect t)).set ↔ _
  rw [View.set_slice_whole, Rect.mem_set_unit]
  exact Iff.rfl

theorem flushed2_3 (t : Fin cfg2.N) :
    (dat2 V c).flushed 3 t = ((cfg2.win 3).blk t).view.read (Elt Ideal) (aM (V c main_v2_1) (V c main_arg2) (V c main_arg3)) := by
  show (cfg2.win 3).cut (grid2.coords t) ((dat2 V c).after 3 t) = _
  rw [after2_3]
  unfold outsAt2
  rw [out2_eq]
  funext y
  obtain ⟨r, n, rfl⟩ : ∃ (r : Fin 1024) (n : Fin 512), y = ix2 r n := ⟨y 0, y 1, eq_ix2 y⟩
  obtain ⟨e0, e1⟩ := idx2_3 t
  have he : ((cfg2.win 3).blk t).view.emb (ix2 r n) = (ix2 ⟨1024 * (t.val / 32) + r.val, by have := lt2 t; have := r.isLt; omega⟩ ⟨512 * (t.val % 32) + n.val, by have := n.isLt; omega⟩ : S3072x16384.Idx) := by
    refine (eq_ix2 _).trans (congrArg₂ ix2 (Fin.ext ?_) (Fin.ext ?_))
    · show win2_3.index t (0 : Fin 2) * 1024 + 1 * r.val = 1024 * (t.val / 32) + r.val; rw [e0]; omega
    · show win2_3.index t (1 : Fin 2) * 512 + 1 * n.val = 512 * (t.val % 32) + n.val; rw [e1]; omega
  show dot (fun k => (iblk2 V c 0 t : Vec Ideal S1024x6144 .bf16) (ix2 r k)) (fun i => (iblk2 V c 1 t : Vec Ideal S3072x512 .i8) (ix2 i n)) (fun g => (iblk2 V c 2 t : Vec Ideal S48x512 .f32) (ix2 g n))
    = aM (V c main_v2_1) (V c main_arg2) (V c main_arg3) (((cfg2.win 3).blk t).view.emb (ix2 r n))
  rw [he, funext (iblk2_0 V c t r), funext fun i => iblk2_1 V c t i n, funext fun g => iblk2_2 V c t g n]; rfl

theorem final2_3 : (dat2 V c).arrAt 3 cfg2.N = aM (V c main_v2_1) (V c main_arg2) (V c main_arg3) := by
  refine (dat2 V c).arrAt_eq_of_cover 3 _ (fun t _ => flushed2_3 V c t) fun i => ?_
  have h0 : (i 0).val < 3072 := (i 0).isLt
  have h1 : (i 1).val < 16384 := (i 1).isLt
  have hN := N_2
  refine ⟨⟨32 * ((i 0).val / 1024) + (i 1).val / 512, lt_of_lt_of_eq (by omega) hN.symm⟩, (by decide +kernel : ∀ t : Fin cfg2.N, (cfg2.win 3).flush t = true) _, ?_⟩
  obtain ⟨e0, e1⟩ := idx2_3 ⟨32 * ((i 0).val / 1024) + (i 1).val / 512, lt_of_lt_of_eq (by omega) hN.symm⟩
  rw [mem2_3]
  intro a
  fin_cases a
  · show win2_3.index _ (0 : Fin 2) * 1024 ≤ (i 0).val ∧ (i 0).val < win2_3.index _ (0 : Fin 2) * 1024 + 1024
    rw [e0]; dsimp only; omega
  · show win2_3.index _ (1 : Fin 2) * 512 ≤ (i 1).val ∧ (i 1).val < win2_3.index _ (1 : Fin 2) * 512 + 512
    rw [e1]; dsimp only; omega

end

end Cert.KernelIdeal.Value

end
-- ==== Proof.Value.RefParts.lean ====
/- The reference's results at an index: its composed terms cut into named parts, each read at an index. -/
module
public import proofs.«01_k».proof.Proof.Gen.ReferenceIdeal.Run
public import proofs.«01_k».proof.Proof.Value.Spec
public import Idealize.ShloMosaic.Lib.Tactic

@[expose] public section

set_option maxRecDepth 16384

noncomputable section

namespace Cert.ReferenceIdeal.Value

open Cert.ReferenceIdeal Cert.ReferenceIdeal.Gen Cert.Spec
open Idealize.ShloMosaic Idealize.ShloMosaic.TcCoe Idealize.ShloMosaic.Tactic

variable {F : FTy → Type} [FloatOps F]

/-! ### The rotation matrix -/

theorem par_succ (k i j : ℕ) : par (k + 1) (i &&& j) = xor (par k (i / 2 &&& j / 2)) (par 1 ((i % 2) &&& (j % 2))) := by
  have h1 : (i &&& j) / 2 = i / 2 &&& j / 2 := by
    apply Nat.eq_of_testBit_eq; intro b; simp [Nat.testBit_div_two]
  have h2 : (i &&& j) % 2 = ((i % 2) &&& (j % 2)) % 2 := by
    rcases Nat.mod_two_eq_zero_or_one i with hi | hi <;> rcases Nat.mod_two_eq_zero_or_one j with hj | hj <;>
      · have := Nat.and_mod_two_pow (n := 1) (a := i) (b := j)
        simp [hi, hj] at this ⊢ <;> omega
  simp only [par, h1, h2, Bool.false_xor]

/-- The 2 x 2 sign matrix. -/
def had2 : FVec F S2x2 .f32 := fun i => FloatOps.ofBits .f32 (lit0 (S2x2.rowMajor i))

theorem had2_apply (i j : Fin 2) : had2 (F := Ideal) (ix2 i j) = sgnOf (par 1 (i.val &&& j.val)) := by
  have h1 : Ideal.ofBits .f32 0x3F800000#32 = 1 := Ideal.ofBits_one_f32
  have h2 : Ideal.ofBits .f32 0xBF800000#32 = -1 := by
    rw [show (-1 : EReal) = ((-1 : ℝ) : EReal) by rw [EReal.coe_neg]; rfl]
    simp [Ideal.ofBits, Ideal.ieee, -EReal.coe_mul, -EReal.coe_neg]; norm_num
  fin_cases i <;> fin_cases j
  · exact h1.trans rfl
  · exact h1.trans rfl
  · exact h1.trans rfl
  · exact h2.trans rfl

/-- The 4 x 4 sign matrix: the Kronecker product of the one of half its size with the 2 x 2 one. -/
def had4 : FVec F S4x4 .f32 :=
  shapeCast _ (mulf (broadcastInDim S2x2x2x2 ![0, 1, 2, 3] bcast_S2x1x2x1_S2x2x2x2_0_1_2_3 (broadcastInDim S2x1x2x1 ![0, 2] bcast_S2x2_S2x1x2x1_0_2 had2)) (broadcastInDim S2x2x2x2 ![0, 1, 2, 3] bcast_S1x2x1x2_S2x2x2x2_0_1_2_3 (broadcastInDim S1x2x1x2 ![1, 3] bcast_S2x2_S1x2x1x2_1_3 had2))) shapeCasts_S2x2x2x2_S4x4

theorem had4_apply (i j : Fin 4) : had4 (F := Ideal) (ix2 i j) = sgnOf (par 2 (i.val &&& j.val)) := by
  pointwise [had4]
  rw [had2_apply, had2_apply, par_succ 1 i.val j.val, sgnOf_xor]

/-- The 8 x 8 sign matrix: the Kronecker product of the one of half its size with the 2 x 2 one. -/
def had8 : FVec F S8x8 .f32 :=
  shapeCast _ (mulf (broadcastInDim S4x2x4x2 ![0, 1, 2, 3] bcast_S4x1x4x1_S4x2x4x2_0_1_2_3 (broadcastInDim S4x1x4x1 ![0, 2] bcast_S4x4_S4x1x4x1_0_2 had4)) (broadcastInDim S4x2x4x2 ![0, 1, 2, 3] bcast_S1x2x1x2_S4x2x4x2_0_1_2_3 (broadcastInDim S1x2x1x2 ![1, 3] bcast_S2x2_S1x2x1x2_1_3 had2))) shapeCasts_S4x2x4x2_S8x8

theorem had8_apply (i j : Fin 8) : had8 (F := Ideal) (ix2 i j) = sgnOf (par 3 (i.val &&& j.val)) := by
  pointwise [had8]
  rw [had4_apply, had2_apply, par_succ 2 i.val j.val, sgnOf_xor]

/-- The 16 x 16 sign matrix: the Kronecker product of the one of half its size with the 2 x 2 one. -/
def had16 : FVec F S16x16 .f32 :=
  shapeCast _ (mulf (broadcastInDim S8x2x8x2 ![0, 1, 2, 3] bcast_S8x1x8x1_S8x2x8x2_0_1_2_3 (broadcastInDim S8x1x8x1 ![0, 2] bcast_S8x8_S8x1x8x1_0_2 had8)) (broadcastInDim S8x2x8x2 ![0, 1, 2, 3] bcast_S1x2x1x2_S8x2x8x2_0_1_2_3 (broadcastInDim S1x2x1x2 ![1, 3] bcast_S2x2_S1x2x1x2_1_3 had2))) shapeCasts_S8x2x8x2_S16x16

theorem had16_apply (i j : Fin 16) : had16 (F := Ideal) (ix2 i j) = sgnOf (par 4 (i.val &&& j.val)) := by
  pointwise [had16]
  rw [had8_apply, had2_apply, par_succ 3 i.val j.val, sgnOf_xor]

/-- The 32 x 32 sign matrix: the Kronecker product of the one of half its size with the 2 x 2 one. -/
def had32 : FVec F S32x32 .f32 :=
  shapeCast _ (mulf (broadcastInDim S16x2x16x2 ![0, 1, 2, 3] bcast_S16x1x16x1_S16x2x16x2_0_1_2_3 (broadcastInDim S16x1x16x1 ![0, 2] bcast_S16x16_S16x1x16x1_0_2 had16)) (broadcastInDim S16x2x16x2 ![0, 1, 2, 3] bcast_S1x2x1x2_S16x2x16x2_0_1_2_3 (broadcastInDim S1x2x1x2 ![1, 3] bcast_S2x2_S1x2x1x2_1_3 had2))) shapeCasts_S16x2x16x2_S32x32

theorem had32_apply (i j : Fin 32) : had32 (F := Ideal) (ix2 i j) = sgnOf (par 5 (i.val &&& j.val)) := by
  pointwise [had32]
  rw [had16_apply, had2_apply, par_succ 4 i.val j.val, sgnOf_xor]

/-- The 64 x 64 sign matrix: the Kronecker product of the one of half its size with the 2 x 2 one. -/
def had64 : FVec F S64x64 .f32 :=
  shapeCast _ (mulf (broadcastInDim S32x2x32x2 ![0, 1, 2, 3] bcast_S32x1x32x1_S32x2x32x2_0_1_2_3 (broadcastInDim S32x1x32x1 ![0, 2] bcast_S32x32_S32x1x32x1_0_2 had32)) (broadcastInDim S32x2x32x2 ![0, 1, 2, 3] bcast_S1x2x1x2_S32x2x32x2_0_1_2_3 (broadcastInDim S1x2x1x2 ![1, 3] bcast_S2x2_S1x2x1x2_1_3 had2))) shapeCasts_S32x2x32x2_S64x64

theorem had64_apply (i j : Fin 64) : had64 (F := Ideal) (ix2 i j) = sgnOf (par 6 (i.val &&& j.val)) := by
  pointwise [had64]
  rw [had32_apply, had2_apply, par_succ 5 i.val j.val, sgnOf_xor]

/-- The 128 x 128 sign matrix: the Kronecker product of the one of half its size with the 2 x 2 one. -/
def had128 : FVec F S128x128 .f32 :=
  shapeCast _ (mulf (broadcastInDim S64x2x64x2 ![0, 1, 2, 3] bcast_S64x1x64x1_S64x2x64x2_0_1_2_3 (broadcastInDim S64x1x64x1 ![0, 2] bcast_S64x64_S64x1x64x1_0_2 had64)) (broadcastInDim S64x2x64x2 ![0, 1, 2, 3] bcast_S1x2x1x2_S64x2x64x2_0_1_2_3 (broadcastInDim S1x2x1x2 ![1, 3] bcast_S2x2_S1x2x1x2_1_3 had2))) shapeCasts_S64x2x64x2_S128x128

theorem had128_apply (i j : Fin 128) : had128 (F := Ideal) (ix2 i j) = sgnOf (par 7 (i.val &&& j.val)) := by
  pointwise [had128]
  rw [had64_apply, had2_apply, par_succ 6 i.val j.val, sgnOf_xor]

/-- The rotation matrix, scaled. -/
def hadM : FVec F S128x128 .f32 := mulf had128 (broadcastInDim S128x128 ![] bcast_S_S128x128 (constant S_ .f32 0x3DB504F3#32))

theorem hadM_apply (i j : Fin 128) : hadM (F := Ideal) (ix2 i j) = sg i j * cst := by
  pointwise [hadM]
  rw [had128_apply]; rfl

/-! ### The rotated rows -/

/-- The rotated rows, cut into groups. -/
def rotG (X0 : FVec F S3x1024x6144 .bf16) : FVec F S3x1024x48x128 .f32 :=
  (shapeCast _ (shapeCast _ (Host.dotGeneral dot_S3x1024x48x128_S128x128_S3x1024x48x128_3_0_012_1_n_n (some .fp32) (shapeCast _ (extf .f32 X0 bitsLt_bf16_f32) shapeCasts_S3x1024x6144_S3x1024x48x128) hadM) shapeCasts_S3x1024x48x128_S3x1024x6144) shapeCasts_S3x1024x6144_S3x1024x48x128)

/-- The rotated rows. -/
def rotF (X1 : FVec F S3x1024x6144 .bf16) : FVec F S3x1024x6144 .f32 :=
  (shapeCast _ (Host.dotGeneral dot_S3x1024x48x128_S128x128_S3x1024x48x128_3_0_012_1_n_n (some .fp32) (shapeCast _ (extf .f32 X1 bitsLt_bf16_f32) shapeCasts_S3x1024x6144_S3x1024x48x128) hadM) shapeCasts_S3x1024x48x128_S3x1024x6144)

/-- The scale of every group. -/
def scaleR (R : FVec F S3x1024x48x128 .f32) : FVec F S3x1024x48 .f32 :=
  select (cmpf .oeq (Host.reduce FloatOps.maximumf (Host.absf R) (constant S_ .f32 0xFF800000#32) reducesTo_S3x1024x48x128_S3x1024x48_d3 h_S_) (broadcastInDim S3x1024x48 ![] bcast_S_S3x1024x48 (constant S_ .f32 0x00000000#32))) (broadcastInDim S3x1024x48 ![] bcast_S_S3x1024x48 (constant S_ .f32 0x3F800000#32)) (Host.divf (Host.reduce FloatOps.maximumf (Host.absf R) (constant S_ .f32 0xFF800000#32) reducesTo_S3x1024x48x128_S3x1024x48_d3 h_S_) (broadcastInDim S3x1024x48 ![] bcast_S_S3x1024x48 (constant S_ .f32 0x40E00000#32)))

/-- The codes. -/
def codesR (R : FVec F S3x1024x48x128 .f32) (S : FVec F S3x1024x48 .f32) : IVec S3x1024x6144 8 :=
  shapeCast _ (trunci 8 (fptosi 32 (minimumf (broadcastInDim S3x1024x48x128 ![] bcast_S_S3x1024x48x128 (id (constant S_ .f32 0x40E00000#32))) (maximumf (broadcastInDim S3x1024x48x128 ![] bcast_S_S3x1024x48x128 (id (constant S_ .f32 0xC0E00000#32))) (Host.roundeven (Host.divf R (broadcastInDim S3x1024x48x128 ![0, 1, 2, 3] bcast_S3x1024x48x1_S3x1024x48x128_0_1_2_3 (broadcastInDim S3x1024x48x1 ![0, 1, 2] bcast_S3x1024x48_S3x1024x48x1_0_1_2 S))))))) natLt_8_32) shapeCasts_S3x1024x48x128_S3x1024x6144

/-- The weights of the even rows. -/
def wLo (WQ : IVec S3072x16384 8) (WS : FVec F S48x16384 .f32) : FVec F S3072x16384 .bf16 :=
  (mulf (sitofp .bf16 (select (cmpi .sge (andi (extui 32 WQ natLt_8_32) (broadcastInDim S3072x16384 ![] bcast_S_S3072x16384 (constantI S_ 32 15#32))) (broadcastInDim S3072x16384 ![] bcast_S_S3072x16384 (constantI S_ 32 8#32))) (subi (andi (extui 32 WQ natLt_8_32) (broadcastInDim S3072x16384 ![] bcast_S_S3072x16384 (constantI S_ 32 15#32))) (broadcastInDim S3072x16384 ![] bcast_S_S3072x16384 (constantI S_ 32 16#32))) (andi (extui 32 WQ natLt_8_32) (broadcastInDim S3072x16384 ![] bcast_S_S3072x16384 (constantI S_ 32 15#32))))) (shapeCast _ (broadcastInDim S48x64x16384 ![0, 2] bcast_S48x16384_S48x64x16384_0_2 (truncf .bf16 WS bitsLt_bf16_f32)) shapeCasts_S48x64x16384_S3072x16384))

/-- The weights of the odd rows. -/
def wHi (WQ : IVec S3072x16384 8) (WS : FVec F S48x16384 .f32) : FVec F S3072x16384 .bf16 :=
  (mulf (sitofp .bf16 (select (cmpi .sge (Host.shrsi (extui 32 WQ natLt_8_32) (broadcastInDim S3072x16384 ![] bcast_S_S3072x16384 (constantI S_ 32 4#32))) (broadcastInDim S3072x16384 ![] bcast_S_S3072x16384 (constantI S_ 32 8#32))) (subi (Host.shrsi (extui 32 WQ natLt_8_32) (broadcastInDim S3072x16384 ![] bcast_S_S3072x16384 (constantI S_ 32 4#32))) (broadcastInDim S3072x16384 ![] bcast_S_S3072x16384 (constantI S_ 32 16#32))) (Host.shrsi (extui 32 WQ natLt_8_32) (broadcastInDim S3072x16384 ![] bcast_S_S3072x16384 (constantI S_ 32 4#32))))) (shapeCast _ (broadcastInDim S48x64x16384 ![0, 2] bcast_S48x16384_S48x64x16384_0_2 (truncf .bf16 WS bitsLt_bf16_f32)) shapeCasts_S48x64x16384_S3072x16384))

/-- The product of the codes with the weights. -/
def outD (C : IVec S3x1024x6144 8) (S : FVec F S3x1024x48 .f32) (WQ : IVec S3072x16384 8) (WS : FVec F S48x16384 .f32) : FVec F S3x1024x16384 .bf16 :=
  truncf .bf16 (addf (Host.dotGeneral dot_S3x1024x3072_S3072x16384_S3x1024x16384_2_0_01_1_n_n none (mulf (sitofp .bf16 (extsi 32 (Host.slice S3x1024x3072 ![0, 0, 0] ![1, 1, 2] C slicesBy_S3x1024x6144_S3x1024x3072_0s1_0s1_0s2) natLt_8_32)) (shapeCast _ (broadcastInDim S3x1024x48x64 ![0, 1, 2] bcast_S3x1024x48_S3x1024x48x64_0_1_2 (truncf .bf16 S bitsLt_bf16_f32)) shapeCasts_S3x1024x48x64_S3x1024x3072)) (wLo WQ WS)) (Host.dotGeneral dot_S3x1024x3072_S3072x16384_S3x1024x16384_2_0_01_1_n_n none (mulf (sitofp .bf16 (extsi 32 (Host.slice S3x1024x3072 ![0, 0, 1] ![1, 1, 2] C slicesBy_S3x1024x6144_S3x1024x3072_0s1_0s1_1s2) natLt_8_32)) (shapeCast _ (broadcastInDim S3x1024x48x64 ![0, 1, 2] bcast_S3x1024x48_S3x1024x48x64_0_1_2 (truncf .bf16 S bitsLt_bf16_f32)) shapeCasts_S3x1024x48x64_S3x1024x3072)) (wHi WQ WS))) bitsLt_bf16_f32

/-- The product of the rotated rows with the weights. -/
def outV (R : FVec F S3x1024x6144 .f32) (WQ : IVec S3072x16384 8) (WS : FVec F S48x16384 .f32) : FVec F S3x1024x16384 .bf16 :=
  truncf .bf16 (addf (Host.dotGeneral dot_S3x1024x3072_S3072x16384_S3x1024x16384_2_0_01_1_n_n none (Host.slice S3x1024x3072 ![0, 0, 0] ![1, 1, 2] (truncf .bf16 R bitsLt_bf16_f32) slicesBy_S3x1024x6144_S3x1024x3072_0s1_0s1_0s2) (wLo WQ WS)) (Host.dotGeneral dot_S3x1024x3072_S3072x16384_S3x1024x16384_2_0_01_1_n_n none (Host.slice S3x1024x3072 ![0, 0, 1] ![1, 1, 2] (truncf .bf16 R bitsLt_bf16_f32) slicesBy_S3x1024x6144_S3x1024x3072_0s1_0s1_1s2) (wHi WQ WS))) bitsLt_bf16_f32
section
variable (m : (ℓ : Loc nD τ sig) → Buf (Elt F) ℓ) (c : Dev nD)

theorem out3_eq : res_out3 m c = scaleR (rotG (m ((c.tc : Thread nD τ).loc main_arg0))) := by sl_kernel_rfl
theorem out2_eq : res_out2 m c = codesR (rotG (m ((c.tc : Thread nD τ).loc main_arg0))) (scaleR (rotG (m ((c.tc : Thread nD τ).loc main_arg0)))) := by sl_kernel_rfl
theorem out0_eq : res_out0 m c = outD (codesR (rotG (m ((c.tc : Thread nD τ).loc main_arg0))) (scaleR (rotG (m ((c.tc : Thread nD τ).loc main_arg0))))) (scaleR (rotG (m ((c.tc : Thread nD τ).loc main_arg0)))) (m ((c.tc : Thread nD τ).loc main_arg2)) (m ((c.tc : Thread nD τ).loc main_arg3)) := by sl_kernel_rfl
theorem out1_eq : res_out1 m c = outV (rotF (m ((c.tc : Thread nD τ).loc main_arg1))) (m ((c.tc : Thread nD τ).loc main_arg2)) (m ((c.tc : Thread nD τ).loc main_arg3)) := by sl_kernel_rfl
end

end Cert.ReferenceIdeal.Value

end
-- ==== Proof.Value.RefValue.lean ====
/- The reference's results at an index, in the words of `Spec`. -/
module
public import proofs.«01_k».proof.Proof.Value.RefParts

@[expose] public section

set_option maxRecDepth 16384

noncomputable section

namespace Cert.ReferenceIdeal.Value

open Cert.ReferenceIdeal Cert.ReferenceIdeal.Gen Cert.Spec
open Idealize.ShloMosaic Idealize.ShloMosaic.TcCoe Idealize.ShloMosaic.Tactic

/-- A choice by a comparison with a value, at an index. -/
theorem sel_aux (s : Shape) (M Z O V : FVec Ideal s .f32) (j : s.Idx) : select (cmpf .oeq M Z) O (Host.divf M V) j = if M j = Z j then O j else Ideal.div (M j) (V j) := by
  simp only [pointwise]
theorem scaleR_apply₀ (R : FVec Ideal S3x1024x48x128 .f32) (b : Fin 3) (r : Fin 1024) (g : Fin 48) : scaleR R (ix3 b r g) =
    if (Finset.univ.fold max (Ideal.ofBits .f32 0xFF800000#32) fun k : Fin 128 => max (R (ix4 b r g k)) (-(R (ix4 b r g k)))) = 0 then 1
    else Ideal.div (Finset.univ.fold max (Ideal.ofBits .f32 0xFF800000#32) fun k : Fin 128 => max (R (ix4 b r g k)) (-(R (ix4 b r g k)))) (Ideal.ofBits .f32 0x40E00000#32) := by
  unfold scaleR
  have hm : Host.reduce FloatOps.maximumf (Host.absf R) (constant S_ .f32 0xFF800000#32) reducesTo_S3x1024x48x128_S3x1024x48_d3 h_S_ (ix3 b r g) = Finset.univ.fold max (Ideal.ofBits .f32 0xFF800000#32) fun k : Fin 128 => max (R (ix4 b r g k)) (-(R (ix4 b r g k))) := by
    simp only [pointwise]; rfl
  have h0 : broadcastInDim S3x1024x48 ![] bcast_S_S3x1024x48 (constant (F := Ideal) S_ .f32 0x00000000#32) (ix3 b r g) = 0 := Ideal.ofBits_zero_f32
  have h1 : broadcastInDim S3x1024x48 ![] bcast_S_S3x1024x48 (constant (F := Ideal) S_ .f32 0x3F800000#32) (ix3 b r g) = 1 := Ideal.ofBits_one_f32
  have h7 : broadcastInDim S3x1024x48 ![] bcast_S_S3x1024x48 (constant (F := Ideal) S_ .f32 0x40E00000#32) (ix3 b r g) = Ideal.ofBits .f32 0x40E00000#32 := rfl
  rw [sel_aux, hm, h0, h1, h7]

/-- A row of an input of three axes. -/
abbrev row3 (X : FVec Ideal S3x1024x6144 .bf16) (b : Fin 3) (r : Fin 1024) : Fin 6144 → EReal := fun k => X (ix3 b r k)

section
variable (X : FVec Ideal S3x1024x6144 .bf16) (WQ : IVec S3072x16384 8) (WS : FVec Ideal S48x16384 .f32)
  (b : Fin 3) (r : Fin 1024) (g : Fin 48) (n : Fin 16384)

theorem rotG_apply (j : Fin 128) : rotG X (ix4 b r g j) = rot (row3 X b r) g j := by
  rw [rot_eq]
  pointwise [rotG, hadM_apply]
  exact Finset.sum_congr rfl fun x _ => congrArg (· * (sg x j * cst)) (congrArg (fun k => X (ix3 b r k)) (Fin.ext (by simp [col, Nat.mul_comm])))

theorem rotF_apply (k : Fin 6144) : rotF X (ix3 b r k) = flat (rot (row3 X b r)) k := by
  unfold flat
  rw [rot_eq]
  pointwise [rotF, hadM_apply]
  exact Finset.sum_congr rfl fun x _ => congrArg (· * (sg x _ * cst)) (congrArg (fun k => X (ix3 b r k)) (Fin.ext (by simp [col, Nat.mul_comm])))

theorem scaleR_apply : scaleR (rotG X) (ix3 b r g) = scl (row3 X b r) g := by
  rw [scaleR_apply₀]
  simp only [rotG_apply]
  rfl

theorem codesR_apply₀ (R : FVec Ideal S3x1024x48x128 .f32) (S : FVec Ideal S3x1024x48 .f32) (k : Fin 6144) :
    codesR R S (ix3 b r k) = (Ideal.fptosi 32 (clip7 (Ideal.div (R (ix4 b r ⟨k.val / 128, by have := k.isLt; omega⟩ ⟨k.val % 128, Nat.mod_lt _ (by norm_num)⟩)) (S (ix3 b r ⟨k.val / 128, by have := k.isLt; omega⟩))))).setWidth 8 := by
  pointwise [codesR]
  rfl

theorem codesR_apply (k : Fin 6144) : codesR (rotG X) (scaleR (rotG X)) (ix3 b r k) = flat (code (row3 X b r)) k := by
  rw [codesR_apply₀, rotG_apply, scaleR_apply]
  exact clip7_trunc _

theorem lo_eq (x : BitVec 8) : (Scalar.select (IntOp.cmpi CmpIPredicate.sge (IntOp.andi (BitVec.setWidth 32 x) 15#32) 8#32)
          (IntOp.subi (IntOp.andi (BitVec.setWidth 32 x) 15#32) 16#32)
          (IntOp.andi (BitVec.setWidth 32 x) 15#32)).toInt = nib x 0 := by
  revert x; decide +kernel

theorem hi_eq (x : BitVec 8) : (Scalar.select
          (IntOp.cmpi CmpIPredicate.sge (IntOp.shrsi ArithUnit.host (BitVec.setWidth 32 x) 4#32) 8#32)
          (IntOp.subi (IntOp.shrsi ArithUnit.host (BitVec.setWidth 32 x) 4#32) 16#32)
          (IntOp.shrsi ArithUnit.host (BitVec.setWidth 32 x) 4#32)).toInt = nib x 1 := by
  revert x; decide +kernel

/-- A column of the packed weights. -/
abbrev colQ (n : Fin 16384) : Fin 3072 → BitVec 8 := fun i => WQ (ix2 i n)
/-- A column of the weights' scales. -/
abbrev colS (n : Fin 16384) : Fin 48 → EReal := fun g => WS (ix2 g n)

theorem wLo_apply (i : Fin 3072) : wLo WQ WS (ix2 i n) = wt (colQ WQ n) (colS WS n) ⟨2 * i.val, by have := i.isLt; omega⟩ := by
  pointwise [wLo]
  unfold wt
  have hi : (⟨2 * i.val / 2, by have := i.isLt; omega⟩ : Fin 3072) = i := Fin.ext (by simp)
  have hg : (⟨2 * i.val / 128, by have := i.isLt; omega⟩ : Fin 48) = ⟨i.val / 64, by have := i.isLt; omega⟩ := Fin.ext (by simp; omega)
  have hm : 2 * i.val % 2 = 0 := by omega
  simp only [hi, hg, hm]
  rw [← lo_eq]
  rfl

theorem wHi_apply (i : Fin 3072) : wHi WQ WS (ix2 i n) = wt (colQ WQ n) (colS WS n) ⟨1 + 2 * i.val, by have := i.isLt; omega⟩ := by
  pointwise [wHi]
  unfold wt
  have hi : (⟨(1 + 2 * i.val) / 2, by have := i.isLt; omega⟩ : Fin 3072) = i := Fin.ext (by simp; omega)
  have hg : (⟨(1 + 2 * i.val) / 128, by have := i.isLt; omega⟩ : Fin 48) = ⟨i.val / 64, by have := i.isLt; omega⟩ := Fin.ext (by simp; omega)
  have hm : (1 + 2 * i.val) % 2 = 1 := by omega
  simp only [hi, hg, hm]
  rw [← hi_eq]
  rfl

/-- A code times its scale is the element they stand for. -/
theorem back_apply (k : Fin 6144) (g' : Fin 48) (hg : g' = ⟨k.val / 128, by have := k.isLt; omega⟩) :
    (FloatOps.sitofp (F := Ideal) FTy.bf16 (BitVec.signExtend 32 (codesR (rotG X) (scaleR (rotG X)) (ix3 b r k))) : Ideal .bf16) * scaleR (rotG X) (ix3 b r g') = flat (dq (row3 X b r)) k := by
  subst hg
  rw [codesR_apply, scaleR_apply]
  exact congrArg (· * _) (clip7_back _)

theorem outD_apply₀ (C : IVec S3x1024x6144 8) (S : FVec Ideal S3x1024x48 .f32) : outD C S WQ WS (ix3 b r n)
    = (∑ i : Fin 3072, FloatOps.sitofp (F := Ideal) FTy.bf16 (BitVec.signExtend 32 (C (ix3 b r ⟨2 * i.val, by have := i.isLt; omega⟩))) * S (ix3 b r ⟨i.val / 64, by have := i.isLt; omega⟩) * wLo WQ WS (ix2 i n))
      + ∑ i : Fin 3072, FloatOps.sitofp (F := Ideal) FTy.bf16 (BitVec.signExtend 32 (C (ix3 b r ⟨1 + 2 * i.val, by have := i.isLt; omega⟩))) * S (ix3 b r ⟨i.val / 64, by have := i.isLt; omega⟩) * wHi WQ WS (ix2 i n) := by
  pointwise [outD]

theorem outV_apply₀ (R : FVec Ideal S3x1024x6144 .f32) : outV R WQ WS (ix3 b r n)
    = (∑ i : Fin 3072, R (ix3 b r ⟨2 * i.val, by have := i.isLt; omega⟩) * wLo WQ WS (ix2 i n))
      + ∑ i : Fin 3072, R (ix3 b r ⟨1 + 2 * i.val, by have := i.isLt; omega⟩) * wHi WQ WS (ix2 i n) := by
  pointwise [outV]

theorem outD_apply : outD (codesR (rotG X) (scaleR (rotG X))) (scaleR (rotG X)) WQ WS (ix3 b r n) = dot (flat (dq (row3 X b r))) (colQ WQ n) (colS WS n) := by
  unfold dot
  rw [sum_even_odd, outD_apply₀]
  refine congrArg₂ (· + ·) ?_ ?_
  · refine Finset.sum_congr rfl fun i _ => ?_
    have h := back_apply X b r ⟨2 * i.val, by have := i.isLt; omega⟩ ⟨i.val / 64, by have := i.isLt; omega⟩
      (Fin.ext (show i.val / 64 = (2 * i.val) / 128 by omega))
    rw [wLo_apply, h]
  · refine Finset.sum_congr rfl fun i _ => ?_
    have h := back_apply X b r ⟨1 + 2 * i.val, by have := i.isLt; omega⟩ ⟨i.val / 64, by have := i.isLt; omega⟩
      (Fin.ext (show i.val / 64 = (1 + 2 * i.val) / 128 by omega))
    rw [wHi_apply, h]

theorem outV_apply : outV (rotF X) WQ WS (ix3 b r n) = dot (flat (rot (row3 X b r))) (colQ WQ n) (colS WS n) := by
  unfold dot
  rw [sum_even_odd, outV_apply₀]
  refine congrArg₂ (· + ·) ?_ ?_
  · refine Finset.sum_congr rfl fun i _ => ?_
    rw [wLo_apply, rotF_apply]
  · refine Finset.sum_congr rfl fun i _ => ?_
    rw [wHi_apply, rotF_apply]

end

end Cert.ReferenceIdeal.Value

end
-- ==== Proof.Value.Algebraic.lean ====
/- The kernel's results are the reference's: both are the same functions of the arguments, element by element. -/
module

public import proofs.«01_k».proof.Defs
public import proofs.«01_k».proof.Proof.KernelIdealRun.Main
public import proofs.«01_k».proof.Proof.Gen.ReferenceIdeal.Run
public import proofs.«01_k».proof.Proof.Value.Arrays
public import proofs.«01_k».proof.Proof.Value.RefValue

@[expose] public section

set_option maxRecDepth 16384

noncomputable section

namespace Cert.KernelIdeal.Value

open Cert.KernelIdeal Cert.KernelIdeal.Gen Cert.KernelIdeal.Run Cert.Spec
open Idealize.ShloMosaic Idealize.ShloMosaic.TcCoe Idealize.ShloMosaic.Tactic

/-- The row of the flat array that row `r` of batch `b` is. -/
abbrev rowOf (b : Fin 3) (r : Fin 1024) : Fin 3072 := ⟨1024 * b.val + r.val, by have := b.isLt; have := r.isLt; omega⟩

theorem castIn (X : FVec Ideal S3x1024x6144 .bf16) (b : Fin 3) (r : Fin 1024) (k : Fin 6144) :
    (shapeCast S3072x6144 X shapeCasts_S3x1024x6144_S3072x6144 : FVec Ideal S3072x6144 .bf16) (ix2 (rowOf b r) k) = X (ix3 b r k) :=
  congrArg X (Shape.reshapeEquiv_eq_of_rowMajor _ (by
    rw [Shape.rowMajor_val_three, Shape.rowMajor_val_two]
    show (b.val * 1024 + r.val) * 6144 + k.val = (1024 * b.val + r.val) * 6144 + k.val
    omega))

theorem castOutY (Y : FVec Ideal S3072x16384 .bf16) (b : Fin 3) (r : Fin 1024) (k : Fin 16384) :
    (shapeCast S3x1024x16384 Y shapeCasts_S3072x16384_S3x1024x16384 : FVec Ideal S3x1024x16384 .bf16) (ix3 b r k) = Y (ix2 (rowOf b r) k) :=
  congrArg Y (Shape.reshapeEquiv_eq_of_rowMajor _ (by
    rw [Shape.rowMajor_val_three, Shape.rowMajor_val_two]
    show (1024 * b.val + r.val) * 16384 + k.val = (b.val * 1024 + r.val) * 16384 + k.val
    omega))

theorem castOutQ (Y : IVec S3072x6144 8) (b : Fin 3) (r : Fin 1024) (k : Fin 6144) :
    (shapeCast S3x1024x6144 Y shapeCasts_S3072x6144_S3x1024x6144 : IVec S3x1024x6144 8) (ix3 b r k) = Y (ix2 (rowOf b r) k) :=
  congrArg Y (Shape.reshapeEquiv_eq_of_rowMajor _ (by
    rw [Shape.rowMajor_val_three, Shape.rowMajor_val_two]
    show (1024 * b.val + r.val) * 6144 + k.val = (b.val * 1024 + r.val) * 6144 + k.val
    omega))

theorem castOutS (Y : FVec Ideal S3072x48 .f32) (b : Fin 3) (r : Fin 1024) (k : Fin 48) :
    (shapeCast S3x1024x48 Y shapeCasts_S3072x48_S3x1024x48 : FVec Ideal S3x1024x48 .f32) (ix3 b r k) = Y (ix2 (rowOf b r) k) :=
  congrArg Y (Shape.reshapeEquiv_eq_of_rowMajor _ (by
    rw [Shape.rowMajor_val_three, Shape.rowMajor_val_two]
    show (1024 * b.val + r.val) * 48 + k.val = (b.val * 1024 + r.val) * 48 + k.val
    omega))

section
variable (m : (ℓ : Loc nD τ sig) → Buf (Elt Ideal) ℓ) (ρ : Dev nD → PrngReg) (c : Dev nD)

/-- The first argument's rows, flat. -/
abbrev inD : FVec Ideal S3072x6144 .bf16 := shapeCast S3072x6144 (m ((c : Thread nD τ).loc main_arg0) : FVec Ideal S3x1024x6144 .bf16) shapeCasts_S3x1024x6144_S3072x6144
/-- The second argument's rows, flat. -/
abbrev inV : FVec Ideal S3072x6144 .bf16 := shapeCast S3072x6144 (m ((c : Thread nD τ).loc main_arg1) : FVec Ideal S3x1024x6144 .bf16) shapeCasts_S3x1024x6144_S3072x6144

theorem V1_v0 : V1 m ρ c main_v0 = inD m c := by
  show StableHlo.after hostOps0 (W0 m ρ c) (Proc.devRef .tc main_v0) = _
  after_results_simp
  rfl

theorem V1_v1 : V1 m ρ c main_v1 = inV m c := by
  show StableHlo.after hostOps0 (W0 m ρ c) (Proc.devRef .tc main_v1) = _
  after_results_simp
  rfl

theorem W2_xd : V2 m ρ c main_v2_0 = aD (inD m c) := (W2_arr m ρ c 2).trans ((final0_2 (V1 m ρ) c).trans (congrArg aD (V1_v0 m ρ c)))
theorem W2_xv : V2 m ρ c main_v2_1 = aV (inV m c) := (W2_arr m ρ c 3).trans ((final0_3 (V1 m ρ) c).trans (congrArg aV (V1_v1 m ρ c)))
theorem W2_q : V2 m ρ c main_v2_2 = aQ (inD m c) := (W2_arr m ρ c 4).trans ((final0_4 (V1 m ρ) c).trans (congrArg aQ (V1_v0 m ρ c)))
theorem W2_s : V2 m ρ c main_v2_3 = aS (inD m c) := (W2_arr m ρ c 5).trans ((final0_5 (V1 m ρ) c).trans (congrArg aS (V1_v0 m ρ c)))

/-- The packed weights. -/
abbrev inQ : IVec S3072x16384 8 := m ((c : Thread nD τ).loc main_arg2)
/-- The weights' scales. -/
abbrev inS : FVec Ideal S48x16384 .f32 := m ((c : Thread nD τ).loc main_arg3)

theorem V2_q : V2 m ρ c main_arg2 = inQ m c := W2_args m ρ c main_arg2 (by decide)
theorem V2_s : V2 m ρ c main_arg3 = inS m c := W2_args m ρ c main_arg3 (by decide)
theorem V3_q : V3 m ρ c main_arg2 = inQ m c := W3_args m ρ c main_arg2 (by decide)
theorem V3_s : V3 m ρ c main_arg3 = inS m c := W3_args m ρ c main_arg3 (by decide)

theorem V3_xv : V3 m ρ c main_v2_1 = aV (inV m c) := (W3_of m ρ c main_v2_1 (by decide +kernel)).trans (W2_xv m ρ c)

theorem W4_yd : V4 m ρ c main_v3 = aM (aD (inD m c)) (inQ m c) (inS m c) := by
  refine (W4_of m ρ c main_v3 (by decide +kernel)).trans ((W3_arr m ρ c 3).trans ((final1_3 (V2 m ρ) c).trans ?_))
  rw [W2_xd, V2_q, V2_s]

theorem W4_yv : V4 m ρ c main_v4 = aM (aV (inV m c)) (inQ m c) (inS m c) := by
  refine (W4_arr m ρ c 3).trans ((final2_3 (V3 m ρ) c).trans ?_)
  rw [V3_xv, V3_q, V3_s]

theorem W4_q : V4 m ρ c main_v2_2 = aQ (inD m c) :=
  (W4_of m ρ c main_v2_2 (by decide +kernel)).trans ((W3_of m ρ c main_v2_2 (by decide +kernel)).trans (W2_q m ρ c))

theorem W4_s : V4 m ρ c main_v2_3 = aS (inD m c) :=
  (W4_of m ρ c main_v2_3 (by decide +kernel)).trans ((W3_of m ρ c main_v2_3 (by decide +kernel)).trans (W2_s m ρ c))

theorem W5_v5 : W5 m ρ c (Proc.devRef .tc main_v5) = (shapeCast S3x1024x16384 (aM (aD (inD m c)) (inQ m c) (inS m c)) shapeCasts_S3072x16384_S3x1024x16384 : FVec Ideal S3x1024x16384 .bf16) := by
  rw [← W4_yd m ρ c]
  show StableHlo.after hostOps3 (W4 m ρ c) (Proc.devRef .tc main_v5) = _
  after_results_simp
  rfl

theorem W5_v6 : W5 m ρ c (Proc.devRef .tc main_v6) = (shapeCast S3x1024x16384 (aM (aV (inV m c)) (inQ m c) (inS m c)) shapeCasts_S3072x16384_S3x1024x16384 : FVec Ideal S3x1024x16384 .bf16) := by
  rw [← W4_yv m ρ c]
  show StableHlo.after hostOps3 (W4 m ρ c) (Proc.devRef .tc main_v6) = _
  after_results_simp
  rfl

theorem W5_v7 : W5 m ρ c (Proc.devRef .tc main_v7) = (shapeCast S3x1024x6144 (aQ (inD m c)) shapeCasts_S3072x6144_S3x1024x6144 : IVec S3x1024x6144 8) := by
  rw [← W4_q m ρ c]
  show StableHlo.after hostOps3 (W4 m ρ c) (Proc.devRef .tc main_v7) = _
  after_results_simp
  rfl

theorem W5_v8 : W5 m ρ c (Proc.devRef .tc main_v8) = (shapeCast S3x1024x48 (aS (inD m c)) shapeCasts_S3072x48_S3x1024x48 : FVec Ideal S3x1024x48 .f32) := by
  rw [← W4_s m ρ c]
  show StableHlo.after hostOps3 (W4 m ρ c) (Proc.devRef .tc main_v8) = _
  after_results_simp
  rfl
end

end Cert.KernelIdeal.Value

namespace Cert.Proof

open Idealize.ShloMosaic Idealize.ShloMosaic.TcCoe Idealize.SL.Sem
open Cert.KernelIdeal.Value Cert.Spec

section
variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

theorem row_inD (b : Fin 3) (r : Fin 1024) :
    rowA (inD m c) (rowOf b r) = Cert.ReferenceIdeal.Value.row3 (m ((c.tc : Thread Cert.KernelIdeal.nD Cert.KernelIdeal.τ).loc Cert.KernelIdeal.main_arg0)) b r :=
  funext fun k => castIn _ b r k

theorem row_inV (b : Fin 3) (r : Fin 1024) :
    rowA (inV m c) (rowOf b r) = Cert.ReferenceIdeal.Value.row3 (m ((c.tc : Thread Cert.KernelIdeal.nD Cert.KernelIdeal.τ).loc Cert.KernelIdeal.main_arg1)) b r :=
  funext fun k => castIn _ b r k

/-- The first result: the product of the dequantised rows. -/
theorem res0 (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.ReferenceIdeal.Value.res_out0 m' c : FVec Ideal Cert.KernelIdeal.S3x1024x16384 .bf16) = Cert.KernelIdeal.Run.W5 m g c (Proc.devRef .tc Cert.KernelIdeal.main_v5) := by
  rw [W5_v5, Cert.ReferenceIdeal.Value.out0_eq, h0, h2, h3]
  funext i
  obtain ⟨b, r, n, rfl⟩ : ∃ (b : Fin 3) (r : Fin 1024) (n : Fin 16384), i = ix3 b r n := ⟨i 0, i 1, i 2, eq_ix3 i⟩
  refine (Cert.ReferenceIdeal.Value.outD_apply _ _ _ b r n).trans (Eq.trans ?_ (castOutY _ b r n).symm)
  show _ = dot (flat (dq (rowA (inD m c) (rowOf b r)))) _ _
  rw [row_inD]
  rfl

/-- The second result: the product of the rotated rows. -/
theorem res1 (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.ReferenceIdeal.Value.res_out1 m' c : FVec Ideal Cert.KernelIdeal.S3x1024x16384 .bf16) = Cert.KernelIdeal.Run.W5 m g c (Proc.devRef .tc Cert.KernelIdeal.main_v6) := by
  rw [W5_v6, Cert.ReferenceIdeal.Value.out1_eq, h1, h2, h3]
  funext i
  obtain ⟨b, r, n, rfl⟩ : ∃ (b : Fin 3) (r : Fin 1024) (n : Fin 16384), i = ix3 b r n := ⟨i 0, i 1, i 2, eq_ix3 i⟩
  refine (Cert.ReferenceIdeal.Value.outV_apply _ _ _ b r n).trans (Eq.trans ?_ (castOutY _ b r n).symm)
  show _ = dot (flat (rot (rowA (inV m c) (rowOf b r)))) _ _
  rw [row_inV]
  rfl

/-- The third result: the codes. -/
theorem res2 (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    (Cert.ReferenceIdeal.Value.res_out2 m' c : IVec Cert.KernelIdeal.S3x1024x6144 8) = Cert.KernelIdeal.Run.W5 m g c (Proc.devRef .tc Cert.KernelIdeal.main_v7) := by
  rw [W5_v7, Cert.ReferenceIdeal.Value.out2_eq, h0]
  funext i
  obtain ⟨b, r, n, rfl⟩ : ∃ (b : Fin 3) (r : Fin 1024) (n : Fin 6144), i = ix3 b r n := ⟨i 0, i 1, i 2, eq_ix3 i⟩
  refine (Cert.ReferenceIdeal.Value.codesR_apply _ b r n).trans (Eq.trans ?_ (castOutQ _ b r n).symm)
  show _ = flat (code (rowA (inD m c) (rowOf b r))) n
  rw [row_inD]

/-- The fourth result: the scales. -/
theorem res3 (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    (Cert.ReferenceIdeal.Value.res_out3 m' c : FVec Ideal Cert.KernelIdeal.S3x1024x48 .f32) = Cert.KernelIdeal.Run.W5 m g c (Proc.devRef .tc Cert.KernelIdeal.main_v8) := by
  rw [W5_v8, Cert.ReferenceIdeal.Value.out3_eq, h0]
  funext i
  obtain ⟨b, r, n, rfl⟩ : ∃ (b : Fin 3) (r : Fin 1024) (n : Fin 48), i = ix3 b r n := ⟨i 0, i 1, i 2, eq_ix3 i⟩
  refine (Cert.ReferenceIdeal.Value.scaleR_apply _ b r n).trans (Eq.trans ?_ (castOutS _ b r n).symm)
  show _ = scl (rowA (inD m c) (rowOf b r)) n
  rw [row_inD]
end

/-- The two programs end with equal results. -/
theorem algebraic : Cert.algebraic_KernelIdeal_ReferenceIdeal := by
  intro m g m' g' _ hargs
  refine ⟨fun c => Cert.KernelIdeal.Run.W5 m g c (Proc.devRef .tc Cert.KernelIdeal.main_v5), fun c => Cert.KernelIdeal.Run.W5 m g c (Proc.devRef .tc Cert.KernelIdeal.main_v6),
    fun c => Cert.KernelIdeal.Run.W5 m g c (Proc.devRef .tc Cert.KernelIdeal.main_v7), fun c => Cert.KernelIdeal.Run.W5 m g c (Proc.devRef .tc Cert.KernelIdeal.main_v8), ?_, ?_⟩
  · exact (θ_run Cert.KernelIdeal.defs _ _).mono (fun _ h c =>
      ⟨h.1 c _ (Cert.KernelIdeal.Run.mem_uc Cert.KernelIdeal.main_v5 (by decide)), h.1 c _ (Cert.KernelIdeal.Run.mem_uc Cert.KernelIdeal.main_v6 (by decide)),
       h.1 c _ (Cert.KernelIdeal.Run.mem_uc Cert.KernelIdeal.main_v7 (by decide)), h.1 c _ (Cert.KernelIdeal.Run.mem_uc Cert.KernelIdeal.main_v8 (by decide)),
       (h.1 c _ (Cert.KernelIdeal.Run.mem_uc Cert.KernelIdeal.main_arg0 (by decide))).trans (Cert.KernelIdeal.Run.W5_main_arg0 m g c),
       (h.1 c _ (Cert.KernelIdeal.Run.mem_uc Cert.KernelIdeal.main_arg1 (by decide))).trans (Cert.KernelIdeal.Run.W5_main_arg1 m g c),
       (h.1 c _ (Cert.KernelIdeal.Run.mem_uc Cert.KernelIdeal.main_arg2 (by decide))).trans (Cert.KernelIdeal.Run.W5_main_arg2 m g c),
       (h.1 c _ (Cert.KernelIdeal.Run.mem_uc Cert.KernelIdeal.main_arg3 (by decide))).trans (Cert.KernelIdeal.Run.W5_main_arg3 m g c)⟩)
      (Cert.KernelIdeal.Run.run_all m g)
  · exact (θ_run Cert.ReferenceIdeal.defs _ _).mono (fun _ h c =>
      ⟨(h c).1.trans (res0 m g m' c (hargs c).1 (hargs c).2.2.1 (hargs c).2.2.2), (h c).2.1.trans (res1 m g m' c (hargs c).2.1 (hargs c).2.2.1 (hargs c).2.2.2),
       (h c).2.2.1.trans (res2 m g m' c (hargs c).1), (h c).2.2.2.1.trans (res3 m g m' c (hargs c).1), (h c).2.2.2.2⟩)
      (Cert.ReferenceIdeal.Value.run (F := Ideal) m' g')

end Cert.Proof

end
-- ==== Proof.KernelRun.Prep1.lean ====
/- The body of the first call (rotation and quantisation): its windows, its branch condition, and the body's run at
   the first grid point, where the rotation matrix is written into the scratch. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev VO0_2 : View sig .tc .vmem S256x6144 .bf16 := (Memref.whole cc0_stg2_0 : Memref sig .tc .vmem S256x6144 .bf16).view
abbrev VO0_3 : View sig .tc .vmem S256x6144 .bf16 := (Memref.whole cc0_stg3_0 : Memref sig .tc .vmem S256x6144 .bf16).view
abbrev VO0_4 : View sig .tc .vmem S256x6144 .i8 := (Memref.whole cc0_stg4_0 : Memref sig .tc .vmem S256x6144 .i8).view
abbrev VO0_5 : View sig .tc .vmem S256x48 .f32 := (Memref.whole cc0_stg5_0 : Memref sig .tc .vmem S256x48 .f32).view
abbrev ms0_0 (t : Fin cfg0.N) : Memref sig .tc .vmem S256x6144 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x6144 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x6144 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x6144 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x6144 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x48 .f32 := win0_5.stage (cfg0.slots t 5)
abbrev hs0_5 (t : Fin cfg0.N) : (ms0_5 t).IsWhole := hstage0_5 ((cfg0.slots t 5).cast nbuf0_5)
abbrev scM0_0 : Memref sig .tc .vmem S256x256 .bf16 := Memref.whole cc0_scratch0

/-- What region 0 keeps of the scoped buffers beside its own scratch: the later regions' buffers, each at some contents. -/
def rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- The region invariant, its scratch owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, e0]
    word_cmp
   : ∀ t : Fin grid0.N, cond0_0 (grid0.coords t) ↔ t.val % 12 = 0)

abbrev VS0_0 : View sig .tc .vmem S256x256 .bf16 := scM0_0.view

set_option maxHeartbeats 2000000 in
noncomputable def kernelRun0_A (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : cond0_0 i)
    (x0 : Vec F S256x6144 .bf16) (x1 : Vec F S256x6144 .bf16) :
    Σ' (L2 : List (View.Piece (Elt F) S256x6144 .bf16)), Σ' (L3 : List (View.Piece (Elt F) S256x6144 .bf16)), Σ' (L4 : List (View.Piece (Elt F) S256x6144 .i8)), Σ' (L5 : List (View.Piece (Elt F) S256x48 .f32)), { LS0 : List (View.Piece (Elt F) S256x256 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0_rotate_quant i arg1 harg1 arg2 harg2 arg3 harg3 arg4 harg4 arg5 harg5 arg6 harg6 arg7 harg7) K } := by
  refine ⟨?_, ?_, ?_, ?_, ?_, fun E K => ?run⟩
  case run =>
    simp only [cc0_rotate_quant_eq_skeleton]; unfold cc0_rotate_quant_skel
    simp only [k0_part47_eq_skeleton, k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    iexists _; iexact HS0

end Cert.Kernel.Run

end
-- ==== Proof.KernelRun.Prep2.lean ====
/- The body's run at the later grid points, where the scratch holds the rotation matrix already. -/
module

public import proofs.«01_k».proof.Proof.KernelRun.Prep1

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1976000 in
noncomputable def kernelRun0_B (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : ¬cond0_0 i)
    (x0 : Vec F S256x6144 .bf16) (x1 : Vec F S256x6144 .bf16) (xs0 : Vec F S256x256 .bf16) :
    Σ' (L2 : List (View.Piece (Elt F) S256x6144 .bf16)), Σ' (L3 : List (View.Piece (Elt F) S256x6144 .bf16)), Σ' (L4 : List (View.Piece (Elt F) S256x6144 .i8)), Σ' (L5 : List (View.Piece (Elt F) S256x48 .f32)), { LS0 : List (View.Piece (Elt F) S256x256 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg7 fullShare xs0) -∗ K ⟨⟩))
          ⊢ wp frame (wpE (defs₀ (F := F)) Variants.none c none) E (cc0_rotate_quant i arg1 harg1 arg2 harg2 arg3 harg3 arg4 harg4 arg5 harg5 arg6 harg6 arg7 harg7) K } := by
  refine ⟨?_, ?_, ?_, ?_, [], fun E K => ?run⟩
  case run =>
    simp only [cc0_rotate_quant_eq_skeleton]; unfold cc0_rotate_quant_skel
    simp only [k0_part47_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    iexists _; isplitr; · ipureintro; exact harg7.read_unread _
    iexact HS0

end Cert.Kernel.Run

end
-- ==== Proof.KernelRun.Prep.lean ====
/- The first call's proof data: what each output window and the carried scratch hold after each grid point. -/
module

public import proofs.«01_k».proof.Proof.KernelRun.Prep2

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover0_A_2 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : cond0_0 i)
    (x0 : Vec F S256x6144 .bf16) (x1 : Vec F S256x6144 .bf16) (y : S256x6144.Idx) :
    ∃ pc ∈ (kernelRun0_A c i arg1 harg1 arg2 harg2 arg3 harg3 arg4 harg4 arg5 harg5 arg6 harg6 arg7 harg7 hc0 x0 x1).1, y ∈ pc.1.set :=
  View.cover_of_tiledL (kernelRun0_A c i arg1 harg1 arg2 harg2 arg3 harg3 arg4 harg4 arg5 harg5 arg6 harg6 arg7 harg7 hc0 x0 x1).1 S256x128.size (by sl_kernel_rfl) y

def out0_A_2 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : cond0_0 i)
    (x0 : Vec F S256x6144 .bf16) (x1 : Vec F S256x6144 .bf16) : Vec F S256x6144 .bf16 :=
  VO0_2.read (Elt F) (VO0_2.writes (Elt F) VO0_2.junk (kernelRun0_A c i arg1 harg1 arg2 harg2 arg3 harg3 arg4 harg4 arg5 harg5 arg6 harg6 arg7 harg7 hc0 x0 x1).1)

theorem cover0_A_3 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : cond0_0 i)
    (x0 : Vec F S256x6144 .bf16) (x1 : Vec F S256x6144 .bf16) (y : S256x6144.Idx) :
    ∃ pc ∈ (kernelRun0_A c i arg1 harg1 arg2 harg2 arg3 harg3 arg4 harg4 arg5 harg5 arg6 harg6 arg7 harg7 hc0 x0 x1).2.1, y ∈ pc.1.set :=
  View.cover_of_tiledL (kernelRun0_A c i arg1 harg1 arg2 harg2 arg3 harg3 arg4 harg4 arg5 harg5 arg6 harg6 arg7 harg7 hc0 x0 x1).2.1 S256x256.size (by sl_kernel_rfl) y

def out0_A_3 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : cond0_0 i)
    (x0 : Vec F S256x6144 .bf16) (x1 : Vec F S256x6144 .bf16) : Vec F S256x6144 .bf16 :=
  VO0_3.read (Elt F) (VO0_3.writes (Elt F) VO0_3.junk (kernelRun0_A c i arg1 harg1 arg2 harg2 arg3 harg3 arg4 harg4 arg5 harg5 arg6 harg6 arg7 harg7 hc0 x0 x1).2.1)

theorem cover0_A_4 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : cond0_0 i)
    (x0 : Vec F S256x6144 .bf16) (x1 : Vec F S256x6144 .bf16) (y : S256x6144.Idx) :
    ∃ pc ∈ (kernelRun0_A c i arg1 harg1 arg2 harg2 arg3 harg3 arg4 harg4 arg5 harg5 arg6 harg6 arg7 harg7 hc0 x0 x1).2.2.1, y ∈ pc.1.set :=
  View.cover_of_tiledL (kernelRun0_A c i arg1 harg1 arg2 harg2 arg3 harg3 arg4 harg4 arg5 harg5 arg6 harg6 arg7 harg7 hc0 x0 x1).2.2.1 S256x128.size (by sl_kernel_rfl) y

def out0_A_4 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : cond0_0 i)
    (x0 : Vec F S256x6144 .bf16) (x1 : Vec F S256x6144 .bf16) : Vec F S256x6144 .i8 :=
  VO0_4.read (Elt F) (VO0_4.writes (Elt F) VO0_4.junk (kernelRun0_A c i arg1 harg1 arg2 harg2 arg3 harg3 arg4 harg4 arg5 harg5 arg6 harg6 arg7 harg7 hc0 x0 x1).2.2.1)

theorem cover0_A_5 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : cond0_0 i)
    (x0 : Vec F S256x6144 .bf16) (x1 : Vec F S256x6144 .bf16) (y : S256x48.Idx) :
    ∃ pc ∈ (kernelRun0_A c i arg1 harg1 arg2 harg2 arg3 harg3 arg4 harg4 arg5 harg5 arg6 harg6 arg7 harg7 hc0 x0 x1).2.2.2.1, y ∈ pc.1.set :=
  View.cover_of_tiledL (kernelRun0_A c i arg1 harg1 arg2 harg2 arg3 harg3 arg4 harg4 arg5 harg5 arg6 harg6 arg7 harg7 hc0 x0 x1).2.2.2.1 S256x48.size (by sl_kernel_rfl) y

def out0_A_5 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : cond0_0 i)
    (x0 : Vec F S256x6144 .bf16) (x1 : Vec F S256x6144 .bf16) : Vec F S256x48 .f32 :=
  VO0_5.read (Elt F) (VO0_5.writes (Elt F) VO0_5.junk (kernelRun0_A c i arg1 harg1 arg2 harg2 arg3 harg3 arg4 harg4 arg5 harg5 arg6 harg6 arg7 harg7 hc0 x0 x1).2.2.2.1)

theorem scover0_A_0 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : cond0_0 i)
    (x0 : Vec F S256x6144 .bf16) (x1 : Vec F S256x6144 .bf16) (y : S256x256.Idx) :
    ∃ pc ∈ (kernelRun0_A c i arg1 harg1 arg2 harg2 arg3 harg3 arg4 harg4 arg5 harg5 arg6 harg6 arg7 harg7 hc0 x0 x1).2.2.2.2.1, y ∈ pc.1.set :=
  View.cover_of_tiledL (kernelRun0_A c i arg1 harg1 arg2 harg2 arg3 harg3 arg4 harg4 arg5 harg5 arg6 harg6 arg7 harg7 hc0 x0 x1).2.2.2.2.1 S256x256.size (by sl_kernel_rfl) y

def sout0_A_0 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : cond0_0 i)
    (x0 : Vec F S256x6144 .bf16) (x1 : Vec F S256x6144 .bf16) : Vec F S256x256 .bf16 :=
  VS0_0.read (Elt F) (VS0_0.writes (Elt F) VS0_0.junk (kernelRun0_A c i arg1 harg1 arg2 harg2 arg3 harg3 arg4 harg4 arg5 harg5 arg6 harg6 arg7 harg7 hc0 x0 x1).2.2.2.2.1)

theorem cover0_B_2 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : ¬cond0_0 i)
    (x0 : Vec F S256x6144 .bf16) (x1 : Vec F S256x6144 .bf16) (xs0 : Vec F S256x256 .bf16) (y : S256x6144.Idx) :
    ∃ pc ∈ (kernelRun0_B c i arg1 harg1 arg2 harg2 arg3 harg3 arg4 harg4 arg5 harg5 arg6 harg6 arg7 harg7 hc0 x0 x1 xs0).1, y ∈ pc.1.set :=
  View.cover_of_tiledL (kernelRun0_B c i arg1 harg1 arg2 harg2 arg3 harg3 arg4 harg4 arg5 harg5 arg6 harg6 arg7 harg7 hc0 x0 x1 xs0).1 S256x128.size (by sl_kernel_rfl) y

def out0_B_2 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : ¬cond0_0 i)
    (x0 : Vec F S256x6144 .bf16) (x1 : Vec F S256x6144 .bf16) (xs0 : Vec F S256x256 .bf16) : Vec F S256x6144 .bf16 :=
  VO0_2.read (Elt F) (VO0_2.writes (Elt F) VO0_2.junk (kernelRun0_B c i arg1 harg1 arg2 harg2 arg3 harg3 arg4 harg4 arg5 harg5 arg6 harg6 arg7 harg7 hc0 x0 x1 xs0).1)

theorem cover0_B_3 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : ¬cond0_0 i)
    (x0 : Vec F S256x6144 .bf16) (x1 : Vec F S256x6144 .bf16) (xs0 : Vec F S256x256 .bf16) (y : S256x6144.Idx) :
    ∃ pc ∈ (kernelRun0_B c i arg1 harg1 arg2 harg2 arg3 harg3 arg4 harg4 arg5 harg5 arg6 harg6 arg7 harg7 hc0 x0 x1 xs0).2.1, y ∈ pc.1.set :=
  View.cover_of_tiledL (kernelRun0_B c i arg1 harg1 arg2 harg2 arg3 harg3 arg4 harg4 arg5 harg5 arg6 harg6 arg7 harg7 hc0 x0 x1 xs0).2.1 S256x256.size (by sl_kernel_rfl) y

def out0_B_3 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : ¬cond0_0 i)
    (x0 : Vec F S256x6144 .bf16) (x1 : Vec F S256x6144 .bf16) (xs0 : Vec F S256x256 .bf16) : Vec F S256x6144 .bf16 :=
  VO0_3.read (Elt F) (VO0_3.writes (Elt F) VO0_3.junk (kernelRun0_B c i arg1 harg1 arg2 harg2 arg3 harg3 arg4 harg4 arg5 harg5 arg6 harg6 arg7 harg7 hc0 x0 x1 xs0).2.1)

theorem cover0_B_4 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : ¬cond0_0 i)
    (x0 : Vec F S256x6144 .bf16) (x1 : Vec F S256x6144 .bf16) (xs0 : Vec F S256x256 .bf16) (y : S256x6144.Idx) :
    ∃ pc ∈ (kernelRun0_B c i arg1 harg1 arg2 harg2 arg3 harg3 arg4 harg4 arg5 harg5 arg6 harg6 arg7 harg7 hc0 x0 x1 xs0).2.2.1, y ∈ pc.1.set :=
  View.cover_of_tiledL (kernelRun0_B c i arg1 harg1 arg2 harg2 arg3 harg3 arg4 harg4 arg5 harg5 arg6 harg6 arg7 harg7 hc0 x0 x1 xs0).2.2.1 S256x128.size (by sl_kernel_rfl) y

def out0_B_4 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : ¬cond0_0 i)
    (x0 : Vec F S256x6144 .bf16) (x1 : Vec F S256x6144 .bf16) (xs0 : Vec F S256x256 .bf16) : Vec F S256x6144 .i8 :=
  VO0_4.read (Elt F) (VO0_4.writes (Elt F) VO0_4.junk (kernelRun0_B c i arg1 harg1 arg2 harg2 arg3 harg3 arg4 harg4 arg5 harg5 arg6 harg6 arg7 harg7 hc0 x0 x1 xs0).2.2.1)

theorem cover0_B_5 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : ¬cond0_0 i)
    (x0 : Vec F S256x6144 .bf16) (x1 : Vec F S256x6144 .bf16) (xs0 : Vec F S256x256 .bf16) (y : S256x48.Idx) :
    ∃ pc ∈ (kernelRun0_B c i arg1 harg1 arg2 harg2 arg3 harg3 arg4 harg4 arg5 harg5 arg6 harg6 arg7 harg7 hc0 x0 x1 xs0).2.2.2.1, y ∈ pc.1.set :=
  View.cover_of_tiledL (kernelRun0_B c i arg1 harg1 arg2 harg2 arg3 harg3 arg4 harg4 arg5 harg5 arg6 harg6 arg7 harg7 hc0 x0 x1 xs0).2.2.2.1 S256x48.size (by sl_kernel_rfl) y

def out0_B_5 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : ¬cond0_0 i)
    (x0 : Vec F S256x6144 .bf16) (x1 : Vec F S256x6144 .bf16) (xs0 : Vec F S256x256 .bf16) : Vec F S256x48 .f32 :=
  VO0_5.read (Elt F) (VO0_5.writes (Elt F) VO0_5.junk (kernelRun0_B c i arg1 harg1 arg2 harg2 arg3 harg3 arg4 harg4 arg5 harg5 arg6 harg6 arg7 harg7 hc0 x0 x1 xs0).2.2.2.1)

def sout0_B_0 (c : Dev nD) (i : grid0.Coords) (arg1 : Memref sig .tc .vmem S256x6144 .bf16) (harg1 : arg1.IsWhole) (arg2 : Memref sig .tc .vmem S256x6144 .bf16) (harg2 : arg2.IsWhole) (arg3 : Memref sig .tc .vmem S256x6144 .bf16) (harg3 : arg3.IsWhole) (arg4 : Memref sig .tc .vmem S256x6144 .bf16) (harg4 : arg4.IsWhole) (arg5 : Memref sig .tc .vmem S256x6144 .i8) (harg5 : arg5.IsWhole) (arg6 : Memref sig .tc .vmem S256x48 .f32) (harg6 : arg6.IsWhole) (arg7 : Memref sig .tc .vmem S256x256 .bf16) (harg7 : arg7.IsWhole) (hc0 : ¬cond0_0 i)
    (x0 : Vec F S256x6144 .bf16) (x1 : Vec F S256x6144 .bf16) (xs0 : Vec F S256x256 .bf16) : Vec F S256x256 .bf16 := xs0

def outsAt0 (c : Dev nD) : (n : ℕ) → n < cfg0.N → Vec F S256x6144 .bf16 × Vec F S256x6144 .bf16 × Vec F S256x6144 .i8 × Vec F S256x48 .f32 × Vec F S256x256 .bf16
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk0 V c 0 ⟨0, hn⟩) (iblk0 V c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk0 V c 0 ⟨0, hn⟩) (iblk0 V c 1 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk0 V c 0 ⟨0, hn⟩) (iblk0 V c 1 ⟨0, hn⟩))
  | n + 1, hn =>
    if h0 : (n + 1) % 12 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk0 V c 0 ⟨n + 1, hn⟩) (iblk0 V c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk0 V c 0 ⟨n + 1, hn⟩) (iblk0 V c 1 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2.2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2.2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2.2.2.2)

theorem outsAt0_A (c : Dev nD) (t : Fin cfg0.N) (h0 : t.val % 12 = 0) :
    outsAt0 V c t.val t.isLt = (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk0 V c 0 t) (iblk0 V c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk0 V c 0 t) (iblk0 V c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk0 V c 0 t) (iblk0 V c 1 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk0 V c 0 t) (iblk0 V c 1 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 12 = 0) :
    outsAt0 V c t.val t.isLt = (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2.2.2.2, out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2.2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.2) ∗ rest0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2.1
    | ⟨5, _⟩ => (outsAt0 V c t.val t.isLt).2.2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2.1 := by dsimp only [dat0]
theorem after0_5 (c : Dev nD) (t : Fin cfg0.N) : (dat0 V c).after 5 t = (outsAt0 V c t.val t.isLt).2.2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

set_option maxHeartbeats 6400000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    after0_0, after0_1, after0_2, after0_3, after0_4, after0_5]
  rw [show (dat0 V c).Φ t.succ = PhiS V c (t.val + 1) t.isLt from rfl, PhiS_succ]
  have hN : t.val < 12 := lt_of_lt_of_eq t.isLt (show cfg0.N = 12 from N_0)
  by_cases h0 : t.val % 12 = 0
  · by_cases hz : t.val = 0
    · rw [PhiS_castSucc V c t, PhiS_zero V c _ _ hz, PhiA0_eq]
      rw [outsAt0_A V c t h0]
      unfold out0_A_2 out0_A_3 out0_A_4 out0_A_5 sout0_A_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk0 V c 0 t) (iblk0 V c 1 t)).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [HS0]; · iexact HS0
      iintro ⟨H0, H1, ⟨%e2, H2⟩, ⟨%e3, H3⟩, ⟨%e4, H4⟩, ⟨%e5, H5⟩, ⟨%es0, HS0⟩⟩
      isplitl [HS0 HR Hg]
      · isplitl [HS0 HR]
        · isplitl [HS0]
          swap; · iexact HR
          unfold owns; iexists _; isplitr
          swap; · iexact HS0
          ipureintro; exact View.read_writes_of_cover _ _ _ _ _ (scover0_A_0 c _ _ _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_A_2 c _ _ _ _ _ _ _ _ _ _ _ _ _ _ _ _ _ _)
      isplitl [H3]
      · unfold owns; iexists _; isplitr
        swap; · iexact H3
        ipureintro; exact View.read_writes_of_cover _ _ _ _ _ (cover0_A_3 c _ _ _ _ _ _ _ _ _ _ _ _ _ _ _ _ _ _)
      isplitl [H4]
      · unfold owns; iexists _; isplitr
        swap; · iexact H4
        ipureintro; exact View.read_writes_of_cover _ _ _ _ _ (cover0_A_4 c _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _)
    · exfalso; have hN : t.val < 12 := lt_of_lt_of_eq t.isLt (show cfg0.N = 12 from N_0); omega
  · by_cases hz : t.val = 0
    · exfalso; have hN : t.val < 12 := lt_of_lt_of_eq t.isLt (show cfg0.N = 12 from N_0); omega
    · rw [PhiS_castSucc V c t, PhiS_pos V c _ _ hz]
      rw [outsAt0_B V c t h0]
      unfold out0_B_2 out0_B_3 out0_B_4 out0_B_5 sout0_B_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (iblk0 V c 0 t) (iblk0 V c 1 t) _).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [HS0]; · iexact HS0
      iintro ⟨H0, H1, ⟨%e2, H2⟩, ⟨%e3, H3⟩, ⟨%e4, H4⟩, ⟨%e5, H5⟩, HS0⟩
      isplitl [HS0 HR Hg]
      · isplitl [HS0 HR]
        · isplitl [HS0] <;> iassumption
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _ _ _ _)
      isplitl [H3]
      · unfold owns; iexists _; isplitr
        swap; · iexact H3
        ipureintro; exact View.read_writes_of_cover _ _ _ _ _ (cover0_B_3 c _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _)
      unfold owns; iexists _; isplitr
      swap; · iexact H5
      ipureintro; exact View.read_writes_of_cover _ _ _ _ _ (cover0_B_5 c _ _ _ _ _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]
  · isplitl [HS0]
    · iexists _; iexact HS0
    iexact HR
  iexact Hg

theorem hout0 (c : Dev nD) : (dat0 V c).Φ (Fin.last cfg0.N) ⊢ Pipeline.ΦA spec0 c :=
  Phi_out V c _ (by rw [Fin.val_last]; have : cfg0.N = 12 := N_0; omega)

end Cert.Kernel.Run

end
-- ==== Proof.KernelRun.Matmul1.lean ====
/- The second call (the draft product): its windows, its body's run and its proof data. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev VO1_3 : View sig .tc .vmem S1024x512 .bf16 := (Memref.whole cc1_stg3_0 : Memref sig .tc .vmem S1024x512 .bf16).view
abbrev ms1_0 (t : Fin cfg1.N) : Memref sig .tc .vmem S1024x6144 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3072x512 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S48x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .bf16 := win1_3.stage (cfg1.slots t 3)
abbrev hs1_3 (t : Fin cfg1.N) : (ms1_3 t).IsWhole := hstage1_3 ((cfg1.slots t 3).cast nbuf1_3)
abbrev scM1_0 : Memref sig .tc .vmem S6144x512 .bf16 := Memref.whole cc1_scratch0

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f)) ∗ (∃ r, prngReg c r)) := by
  unfold Pipeline.ΦA; rw [scopedRest1_eq]; simp only [scM1_0, owns_whole]; try rfl

set_option maxHeartbeats 1256000 in
noncomputable def kernelRun1_A (c : Dev nD) (i : grid1.Coords) (arg2 : Memref sig .tc .vmem S1024x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S1024x512 .bf16) (harg5 : arg5.IsWhole) (arg6 : Memref sig .tc .vmem S6144x512 .bf16) (harg6 : arg6.IsWhole)
    (x0 : Vec F S1024x6144 .bf16) (x1 : Vec F S3072x512 .i8) (x2 : Vec F S48x512 .f32) :
    Σ' (L3 : List (View.Piece (Elt F) S1024x512 .bf16)), { LT0 : List (View.Piece (Elt F) S6144x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LT0)) -∗ K ⟨⟩))
          ⊢ wp frame (wpE (defs₀ (F := F)) Variants.none c none) E (cc1_w4_matmul i arg2 harg2 arg3 harg3 arg4 harg4 arg5 harg5 arg6 harg6) K } := by
  refine ⟨?_, ?_, fun E K => ?run⟩
  case run =>
    simp only [cc1_w4_matmul_eq_skeleton]; unfold cc1_w4_matmul_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

theorem cover1_A_3 (c : Dev nD) (i : grid1.Coords) (arg2 : Memref sig .tc .vmem S1024x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S1024x512 .bf16) (harg5 : arg5.IsWhole) (arg6 : Memref sig .tc .vmem S6144x512 .bf16) (harg6 : arg6.IsWhole)
    (x0 : Vec F S1024x6144 .bf16) (x1 : Vec F S3072x512 .i8) (x2 : Vec F S48x512 .f32) (y : S1024x512.Idx) :
    ∃ pc ∈ (kernelRun1_A c i arg2 harg2 arg3 harg3 arg4 harg4 arg5 harg5 arg6 harg6 x0 x1 x2).1, y ∈ pc.1.set :=
  View.cover_of_tiledL (kernelRun1_A c i arg2 harg2 arg3 harg3 arg4 harg4 arg5 harg5 arg6 harg6 x0 x1 x2).1 S1024x512.size (by sl_kernel_rfl) y

def out1_A_3 (c : Dev nD) (i : grid1.Coords) (arg2 : Memref sig .tc .vmem S1024x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S1024x512 .bf16) (harg5 : arg5.IsWhole) (arg6 : Memref sig .tc .vmem S6144x512 .bf16) (harg6 : arg6.IsWhole)
    (x0 : Vec F S1024x6144 .bf16) (x1 : Vec F S3072x512 .i8) (x2 : Vec F S48x512 .f32) : Vec F S1024x512 .bf16 :=
  VO1_3.read (Elt F) (VO1_3.writes (Elt F) VO1_3.junk (kernelRun1_A c i arg2 harg2 arg3 harg3 arg4 harg4 arg5 harg5 arg6 harg6 x0 x1 x2).1)

def outsAt1 (c : Dev nD) (t : Fin cfg1.N) : Vec F S1024x512 .bf16 :=
  out1_A_3 c (grid1.coords t) (ms1_0 t) (hs1_0 t) (ms1_1 t) (hs1_1 t) (ms1_2 t) (hs1_2 t) (ms1_3 t) (hs1_3 t) scM1_0 (Memref.isWhole_whole _) (iblk1 V c 0 t) (iblk1 V c 1 t) (iblk1 V c 2 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl, PhiA1_eq]
  unfold outsAt1
  unfold out1_A_3
  iintro ⟨⟨⟨HR0, HR1, HR2, HR3, HR4, HR5, HR6, HR7, HR8, HR9, HR10, HR11, HR12, HS0, HR14, HR15, HR16, HR17, HR18, HR19, HR20, HR21, HR22⟩, Hg⟩, Ho, ⟨%d0, H0⟩, ⟨%d1, H1⟩, ⟨%d2, H2⟩, ⟨%d3, H3⟩⟩
  iapply ((kernelRun1_A c (grid1.coords t) _ _ _ _ _ _ _ _ _ _ (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%fT0, HS0⟩⟩
  isplitl [HR0 HR1 HR2 HR3 HR4 HR5 HR6 HR7 HR8 HR9 HR10 HR11 HR12 HS0 HR14 HR15 HR16 HR17 HR18 HR19 HR20 HR21 HR22 Hg]
  · isplitl [HR0 HR1 HR2 HR3 HR4 HR5 HR6 HR7 HR8 HR9 HR10 HR11 HR12 HS0 HR14 HR15 HR16 HR17 HR18 HR19 HR20 HR21 HR22]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HS0]
      · iexists _; unfold owns; iexists _; isplitr
        swap; · iexact HS0
        ipureintro; rfl
      isplitl [HR14]
      · iexact HR14
      isplitl [HR15]
      · iexact HR15
      isplitl [HR16]
      · iexact HR16
      isplitl [HR17]
      · iexact HR17
      isplitl [HR18]
      · iexact HR18
      isplitl [HR19]
      · iexact HR19
      isplitl [HR20]
      · iexact HR20
      isplitl [HR21]
      · iexact HR21
      iexact HR22
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A_3 c _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel.Run

end
-- ==== Proof.KernelRun.Matmul2.lean ====
/- The third call (the verify product): its windows, its body's run and its proof data. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev VO2_3 : View sig .tc .vmem S1024x512 .bf16 := (Memref.whole cc2_stg3_0 : Memref sig .tc .vmem S1024x512 .bf16).view
abbrev ms2_0 (t : Fin cfg2.N) : Memref sig .tc .vmem S1024x6144 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S3072x512 .i8 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S48x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x512 .bf16 := win2_3.stage (cfg2.slots t 3)
abbrev hs2_3 (t : Fin cfg2.N) : (ms2_3 t).IsWhole := hstage2_3 ((cfg2.slots t 3).cast nbuf2_3)
abbrev scM2_0 : Memref sig .tc .vmem S6144x512 .bf16 := Memref.whole cc2_scratch0

theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ d, owns (c : Thread nD τ) scM2_0 fullShare d)) ∗ (∃ r, prngReg c r)) := by
  unfold Pipeline.ΦA; rw [scopedRest2_eq]; simp only [scM2_0, owns_whole]; try rfl

set_option maxHeartbeats 1256000 in
noncomputable def kernelRun2_A (c : Dev nD) (i : grid2.Coords) (arg2 : Memref sig .tc .vmem S1024x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S1024x512 .bf16) (harg5 : arg5.IsWhole) (arg6 : Memref sig .tc .vmem S6144x512 .bf16) (harg6 : arg6.IsWhole)
    (x0 : Vec F S1024x6144 .bf16) (x1 : Vec F S3072x512 .i8) (x2 : Vec F S48x512 .f32) :
    Σ' (L3 : List (View.Piece (Elt F) S1024x512 .bf16)), { LT0 : List (View.Piece (Elt F) S6144x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LT0)) -∗ K ⟨⟩))
          ⊢ wp frame (wpE (defs₀ (F := F)) Variants.none c none) E (cc2_w4_matmul i arg2 harg2 arg3 harg3 arg4 harg4 arg5 harg5 arg6 harg6) K } := by
  refine ⟨?_, ?_, fun E K => ?run⟩
  case run =>
    simp only [cc2_w4_matmul_eq_skeleton]; unfold cc2_w4_matmul_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

theorem cover2_A_3 (c : Dev nD) (i : grid2.Coords) (arg2 : Memref sig .tc .vmem S1024x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S1024x512 .bf16) (harg5 : arg5.IsWhole) (arg6 : Memref sig .tc .vmem S6144x512 .bf16) (harg6 : arg6.IsWhole)
    (x0 : Vec F S1024x6144 .bf16) (x1 : Vec F S3072x512 .i8) (x2 : Vec F S48x512 .f32) (y : S1024x512.Idx) :
    ∃ pc ∈ (kernelRun2_A c i arg2 harg2 arg3 harg3 arg4 harg4 arg5 harg5 arg6 harg6 x0 x1 x2).1, y ∈ pc.1.set :=
  View.cover_of_tiledL (kernelRun2_A c i arg2 harg2 arg3 harg3 arg4 harg4 arg5 harg5 arg6 harg6 x0 x1 x2).1 S1024x512.size (by sl_kernel_rfl) y

def out2_A_3 (c : Dev nD) (i : grid2.Coords) (arg2 : Memref sig .tc .vmem S1024x6144 .bf16) (harg2 : arg2.IsWhole) (arg3 : Memref sig .tc .vmem S3072x512 .i8) (harg3 : arg3.IsWhole) (arg4 : Memref sig .tc .vmem S48x512 .f32) (harg4 : arg4.IsWhole) (arg5 : Memref sig .tc .vmem S1024x512 .bf16) (harg5 : arg5.IsWhole) (arg6 : Memref sig .tc .vmem S6144x512 .bf16) (harg6 : arg6.IsWhole)
    (x0 : Vec F S1024x6144 .bf16) (x1 : Vec F S3072x512 .i8) (x2 : Vec F S48x512 .f32) : Vec F S1024x512 .bf16 :=
  VO2_3.read (Elt F) (VO2_3.writes (Elt F) VO2_3.junk (kernelRun2_A c i arg2 harg2 arg3 harg3 arg4 harg4 arg5 harg5 arg6 harg6 x0 x1 x2).1)

def outsAt2 (c : Dev nD) (t : Fin cfg2.N) : Vec F S1024x512 .bf16 :=
  out2_A_3 c (grid2.coords t) (ms2_0 t) (hs2_0 t) (ms2_1 t) (hs2_1 t) (ms2_2 t) (hs2_2 t) (ms2_3 t) (hs2_3 t) scM2_0 (Memref.isWhole_whole _) (iblk2 V c 0 t) (iblk2 V c 1 t) (iblk2 V c 2 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  rw [show (dat2 V c).Φ t.castSucc = Pipeline.ΦA spec2 c from rfl, PhiA2_eq]
  unfold outsAt2
  unfold out2_A_3
  iintro ⟨⟨⟨HR0, HR1, HR2, HR3, HR4, HR5, HR6, HR7, HR8, HR9, HR10, HR11, HR12, HR13, HR14, HR15, HR16, HR17, HR18, HR19, HR20, HR21, HS0⟩, Hg⟩, Ho, ⟨%d0, H0⟩, ⟨%d1, H1⟩, ⟨%d2, H2⟩, ⟨%d3, H3⟩⟩
  iapply ((kernelRun2_A c (grid2.coords t) _ _ _ _ _ _ _ _ _ _ (iblk2 V c 0 t) (iblk2 V c 1 t) (iblk2 V c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%fT0, HS0⟩⟩
  isplitl [HR0 HR1 HR2 HR3 HR4 HR5 HR6 HR7 HR8 HR9 HR10 HR11 HR12 HR13 HR14 HR15 HR16 HR17 HR18 HR19 HR20 HR21 HS0 Hg]
  · isplitl [HR0 HR1 HR2 HR3 HR4 HR5 HR6 HR7 HR8 HR9 HR10 HR11 HR12 HR13 HR14 HR15 HR16 HR17 HR18 HR19 HR20 HR21 HS0]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      isplitl [HR15]
      · iexact HR15
      isplitl [HR16]
      · iexact HR16
      isplitl [HR17]
      · iexact HR17
      isplitl [HR18]
      · iexact HR18
      isplitl [HR19]
      · iexact HR19
      isplitl [HR20]
      · iexact HR20
      isplitl [HR21]
      · iexact HR21
      iexists _; unfold owns; iexists _; isplitr
      swap; · iexact HS0
      ipureintro; rfl
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_A_3 c _ _ _ _ _ _ _ _ _ _ _ _ _ _)

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.Kernel.Run

end
-- ==== Proof.KernelRun.Main.lean ====
/- The run of the three calls in order, from the launch to the return. -/
module

public import proofs.«01_k».proof.Proof.KernelRun.Prep
public import proofs.«01_k».proof.Proof.KernelRun.Matmul1
public import proofs.«01_k».proof.Proof.KernelRun.Matmul2

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3]

theorem hostOps0_fresh : (hostOps0 : List (HloOp τ sig (Elt F))).Forall fun op => op.fresh = ∅ := by
  simp only [List.Forall]; repeat' constructor
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v5, main_v6, main_v7, main_v8]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps3 (W4 m ρ c)
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem W5_args (c : Dev nD) : ∀ a ∈ argRefs, W5 m ρ c (Proc.devRef .tc a) = m ((c : Thread nD τ).loc a) :=
  fun a ha => (W5_of m ρ c a (hostOps3_args a ha)).trans (W4_args m ρ c a ha)

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.BIBase.Entails.trans ?_ (hin0 (V1 m ρ) c); unfold Pipeline.ΦA
    iintro ⟨Hp, -, Hr⟩
    isplitl [Hr]; · iexact Hr
    iexact Hp
  hout c := by
    rw [Pipeline.ownSems0_none]; refine BI.BIBase.Entails.trans (hout0 (V1 m ρ) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The whole run: every unscoped buffer ends at the last boundary's contents `W5`, every semaphore at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame claim: the argument arrays end as launched, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩, h.2⟩) (run_all m ρ)

end Cert.Kernel.Run

end
-- ==== Proof.lean ====
/- The claims proved: the kernel's frames by the hand-assembled runs of its three calls, the reference's by its
   generated run, and the equality of all four results. -/
module

public import proofs.«01_k».proof.Proof.Value.Algebraic
public import proofs.«01_k».proof.Defs
public import proofs.«01_k».proof.Proof.KernelRun.Main
public import proofs.«01_k».proof.Proof.KernelIdealRun.Main
public import proofs.«01_k».proof.Proof.Gen.ReferenceIdeal.Run

@[expose] public section

open Idealize.ShloMosaic Idealize.SL.Sem

/-- The reference runs, its arguments end unchanged, and it has no semaphore. -/
theorem Cert.Proof.frame_ref : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

theorem Cert.Proof.claim : Cert.Claim := ⟨Cert.Kernel.Gen.facts, Cert.KernelIdeal.Gen.facts, Cert.ReferenceIdeal.Gen.facts, fun m ρ _ => Cert.Kernel.Run.frame m ρ, fun m ρ _ => Cert.KernelIdeal.Run.frame m ρ, Cert.Proof.frame_ref, trivial, Cert.Proof.algebraic⟩
